-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x768 : Shape := ⟨3, ![2, 2048, 768]⟩
abbrev S491520x768 : Shape := ⟨2, ![491520, 768]⟩
abbrev S491520 : Shape := ⟨1, ![491520]⟩
abbrev S4096x768 : Shape := ⟨2, ![4096, 768]⟩
abbrev S768x4096 : Shape := ⟨2, ![768, 4096]⟩
abbrev S240x16x128 : Shape := ⟨3, ![240, 16, 128]⟩
abbrev S16x4096 : Shape := ⟨2, ![16, 4096]⟩
abbrev S2048x768 : Shape := ⟨2, ![2048, 768]⟩
abbrev S1x16x128 : Shape := ⟨3, ![1, 16, 128]⟩
abbrev S2048x128 : Shape := ⟨2, ![2048, 128]⟩
abbrev S32x46x8x128 : Shape := ⟨4, ![32, 46, 8, 128]⟩
abbrev S1x1x128 : Shape := ⟨3, ![1, 1, 128]⟩
abbrev S1x128 : Shape := ⟨2, ![1, 128]⟩
abbrev S128x128 : Shape := ⟨2, ![128, 128]⟩
abbrev S768x256 : Shape := ⟨2, ![768, 256]⟩
abbrev S1x1x8x128 : Shape := ⟨4, ![1, 1, 8, 128]⟩
abbrev S8x128 : Shape := ⟨2, ![8, 128]⟩
abbrev S512x768 : Shape := ⟨2, ![512, 768]⟩
abbrev S512x256 : Shape := ⟨2, ![512, 256]⟩
abbrev S16x128 : Shape := ⟨2, ![16, 128]⟩
abbrev S10x4096 : Shape := ⟨2, ![10, 4096]⟩
abbrev S4096x10 : Shape := ⟨2, ![4096, 10]⟩
abbrev S2x2048x10 : Shape := ⟨3, ![2, 2048, 10]⟩

abbrev nBuf : Space → Nat
  | .hbm => 12
  | .vmem => 12
  | .smem => 0
  | _ => 0

abbrev bufTy : (tb : Table) → Fin (tcTables nBuf tb) → BufTy
  | .hbm, ⟨0, _⟩ => ⟨S2x2048x768, .bf16⟩
  | .hbm, ⟨1, _⟩ => ⟨S491520x768, .i8⟩
  | .hbm, ⟨2, _⟩ => ⟨S491520, .f32⟩
  | .hbm, ⟨3, _⟩ => ⟨S491520, .f32⟩
  | .hbm, ⟨4, _⟩ => ⟨S4096x768, .bf16⟩
  | .hbm, ⟨5, _⟩ => ⟨S768x4096, .bf16⟩
  | .hbm, ⟨6, _⟩ => ⟨S240x16x128, .f32⟩
  | .hbm, ⟨7, _⟩ => ⟨S240x16x128, .f32⟩
  | .hbm, ⟨8, _⟩ => ⟨S16x4096, .f32⟩
  | .hbm, ⟨9, _⟩ => ⟨S10x4096, .f32⟩
  | .hbm, ⟨10, _⟩ => ⟨S4096x10, .f32⟩
  | .hbm, ⟨11, _⟩ => ⟨S2x2048x10, .f32⟩
  | .local _ .vmem, ⟨0, _⟩ => ⟨S2048x768, .i8⟩
  | .local _ .vmem, ⟨1, _⟩ => ⟨S2048x768, .i8⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S768x4096, .bf16⟩
  | .local _ .vmem, ⟨7, _⟩ => ⟨S16x4096, .f32⟩
  | .local _ .vmem, ⟨8, _⟩ => ⟨S2048x768, .bf16⟩
  | .local _ .vmem, ⟨9, _⟩ => ⟨S2048x128, .f32⟩
  | .local _ .vmem, ⟨10, _⟩ => ⟨S2048x128, .f32⟩
  | .local _ .vmem, ⟨11, _⟩ => ⟨S32x46x8x128, .f32⟩
  | _, _ => ⟨S2x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![240], ![false]⟩

@[reducible] def k0_t1_loop : Scf.Loop 32 :=
  let c0_i32_149 : BitVec 32 := 0#32
  let c16_i32 : BitVec 32 := 16#32
  let v296 : BitVec 32 := Scalar.addi c0_i32_149 c16_i32
  let c1_i32 : BitVec 32 := 1#32
  ⟨c0_i32_149, v296, c1_i32⟩
def k0_mult1 (k0_t1 : Fin k0_t1_loop.trips) : BitVec 32 :=
  let c0_i32_149 : BitVec 32 := 0#32
  let c1_i32 : BitVec 32 := 1#32
  let arg10 : BitVec 32 := Scf.iv c0_i32_149 c1_i32 k0_t1
  let c256_i32 : BitVec 32 := 256#32
  let v300 : BitVec 32 := Scalar.muli arg10 c256_i32
  v300
def k0_off1 (k0_t1 : Fin k0_t1_loop.trips) : Fin 2 → Nat :=
  let c0_152 : Index := 0#32
  let c0_i32_149 : BitVec 32 := 0#32
  let c1_i32 : BitVec 32 := 1#32
  let arg10 : BitVec 32 := Scf.iv c0_i32_149 c1_i32 k0_t1
  let c256_i32 : BitVec 32 := 256#32
  let v300 : BitVec 32 := Scalar.muli arg10 c256_i32
  let v301 : BitVec 32 := v300
  let v302 : Index := Scalar.indexCast v301
  ![0, v302.toNat]
def k0_off2 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v307 : Index := Scalar.indexCast v306
  let c0_154 : Index := 0#32
  let c0_155 : Index := 0#32
  let c0_156 : Index := 0#32
  ![v307.toNat, 0, 0, 0]
def k0_off3 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v310 : Index := Scalar.indexCast v306
  let c1_157 : Index := 1#32
  let c0_158 : Index := 0#32
  let c0_159 : Index := 0#32
  ![v310.toNat, 1, 0, 0]
def k0_off4 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v313 : Index := Scalar.indexCast v306
  let c2_160 : Index := 2#32
  let c0_161 : Index := 0#32
  let c0_162 : Index := 0#32
  ![v313.toNat, 2, 0, 0]
def k0_off5 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v316 : Index := Scalar.indexCast v306
  let c3_163 : Index := 3#32
  let c0_164 : Index := 0#32
  let c0_165 : Index := 0#32
  ![v316.toNat, 3, 0, 0]
def k0_off6 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v319 : Index := Scalar.indexCast v306
  let c4_166 : Index := 4#32
  let c0_167 : Index := 0#32
  let c0_168 : Index := 0#32
  ![v319.toNat, 4, 0, 0]
def k0_off7 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v322 : Index := Scalar.indexCast v306
  let c5_169 : Index := 5#32
  let c0_170 : Index := 0#32
  let c0_171 : Index := 0#32
  ![v322.toNat, 5, 0, 0]
def k0_off8 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v325 : Index := Scalar.indexCast v306
  let c6_172 : Index := 6#32
  let c0_173 : Index := 0#32
  let c0_174 : Index := 0#32
  ![v325.toNat, 6, 0, 0]
def k0_off9 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v328 : Index := Scalar.indexCast v306
  let c7_175 : Index := 7#32
  let c0_176 : Index := 0#32
  let c0_177 : Index := 0#32
  ![v328.toNat, 7, 0, 0]
def k0_off10 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v331 : Index := Scalar.indexCast v306
  let c8_178 : Index := 8#32
  let c0_179 : Index := 0#32
  let c0_180 : Index := 0#32
  ![v331.toNat, 8, 0, 0]
def k0_off11 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v334 : Index := Scalar.indexCast v306
  let c9_181 : Index := 9#32
  let c0_182 : Index := 0#32
  let c0_183 : Index := 0#32
  ![v334.toNat, 9, 0, 0]
def k0_off12 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v337 : Index := Scalar.indexCast v306
  let c10_184 : Index := 10#32
  let c0_185 : Index := 0#32
  let c0_186 : Index := 0#32
  ![v337.toNat, 10, 0, 0]
def k0_off13 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v340 : Index := Scalar.indexCast v306
  let c11_187 : Index := 11#32
  let c0_188 : Index := 0#32
  let c0_189 : Index := 0#32
  ![v340.toNat, 11, 0, 0]
def k0_off14 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v343 : Index := Scalar.indexCast v306
  let c12_190 : Index := 12#32
  let c0_191 : Index := 0#32
  let c0_192 : Index := 0#32
  ![v343.toNat, 12, 0, 0]
def k0_off15 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v346 : Index := Scalar.indexCast v306
  let c13_193 : Index := 13#32
  let c0_194 : Index := 0#32
  let c0_195 : Index := 0#32
  ![v346.toNat, 13, 0, 0]
def k0_off16 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v349 : Index := Scalar.indexCast v306
  let c14_196 : Index := 14#32
  let c0_197 : Index := 0#32
  let c0_198 : Index := 0#32
  ![v349.toNat, 14, 0, 0]
def k0_off17 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v352 : Index := Scalar.indexCast v306
  let c15_199 : Index := 15#32
  let c0_200 : Index := 0#32
  let c0_201 : Index := 0#32
  ![v352.toNat, 15, 0, 0]
def k0_off18 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v355 : Index := Scalar.indexCast v306
  let c16 : Index := 16#32
  let c0_202 : Index := 0#32
  let c0_203 : Index := 0#32
  ![v355.toNat, 16, 0, 0]
def k0_off19 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v358 : Index := Scalar.indexCast v306
  let c17 : Index := 17#32
  let c0_204 : Index := 0#32
  let c0_205 : Index := 0#32
  ![v358.toNat, 17, 0, 0]
def k0_off20 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v361 : Index := Scalar.indexCast v306
  let c18 : Index := 18#32
  let c0_206 : Index := 0#32
  let c0_207 : Index := 0#32
  ![v361.toNat, 18, 0, 0]
def k0_off21 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v364 : Index := Scalar.indexCast v306
  let c19 : Index := 19#32
  let c0_208 : Index := 0#32
  let c0_209 : Index := 0#32
  ![v364.toNat, 19, 0, 0]
def k0_off22 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v367 : Index := Scalar.indexCast v306
  let c20 : Index := 20#32
  let c0_210 : Index := 0#32
  let c0_211 : Index := 0#32
  ![v367.toNat, 20, 0, 0]
def k0_off23 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v370 : Index := Scalar.indexCast v306
  let c21 : Index := 21#32
  let c0_212 : Index := 0#32
  let c0_213 : Index := 0#32
  ![v370.toNat, 21, 0, 0]
def k0_off24 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v373 : Index := Scalar.indexCast v306
  let c22 : Index := 22#32
  let c0_214 : Index := 0#32
  let c0_215 : Index := 0#32
  ![v373.toNat, 22, 0, 0]
def k0_off25 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v376 : Index := Scalar.indexCast v306
  let c23 : Index := 23#32
  let c0_216 : Index := 0#32
  let c0_217 : Index := 0#32
  ![v376.toNat, 23, 0, 0]
def k0_off26 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v379 : Index := Scalar.indexCast v306
  let c24 : Index := 24#32
  let c0_218 : Index := 0#32
  let c0_219 : Index := 0#32
  ![v379.toNat, 24, 0, 0]
def k0_off27 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v382 : Index := Scalar.indexCast v306
  let c25 : Index := 25#32
  let c0_220 : Index := 0#32
  let c0_221 : Index := 0#32
  ![v382.toNat, 25, 0, 0]
def k0_off28 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v385 : Index := Scalar.indexCast v306
  let c26 : Index := 26#32
  let c0_222 : Index := 0#32
  let c0_223 : Index := 0#32
  ![v385.toNat, 26, 0, 0]
def k0_off29 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v388 : Index := Scalar.indexCast v306
  let c27 : Index := 27#32
  let c0_224 : Index := 0#32
  let c0_225 : Index := 0#32
  ![v388.toNat, 27, 0, 0]
def k0_off30 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v391 : Index := Scalar.indexCast v306
  let c28 : Index := 28#32
  let c0_226 : Index := 0#32
  let c0_227 : Index := 0#32
  ![v391.toNat, 28, 0, 0]
def k0_off31 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v394 : Index := Scalar.indexCast v306
  let c29 : Index := 29#32
  let c0_228 : Index := 0#32
  let c0_229 : Index := 0#32
  ![v394.toNat, 29, 0, 0]
def k0_off32 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v397 : Index := Scalar.indexCast v306
  let c30 : Index := 30#32
  let c0_230 : Index := 0#32
  let c0_231 : Index := 0#32
  ![v397.toNat, 30, 0, 0]
def k0_off33 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v400 : Index := Scalar.indexCast v306
  let c31 : Index := 31#32
  let c0_232 : Index := 0#32
  let c0_233 : Index := 0#32
  ![v400.toNat, 31, 0, 0]
def k0_off34 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v403 : Index := Scalar.indexCast v306
  let c32 : Index := 32#32
  let c0_234 : Index := 0#32
  let c0_235 : Index := 0#32
  ![v403.toNat, 32, 0, 0]
def k0_off35 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v406 : Index := Scalar.indexCast v306
  let c33 : Index := 33#32
  let c0_236 : Index := 0#32
  let c0_237 : Index := 0#32
  ![v406.toNat, 33, 0, 0]
def k0_off36 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v409 : Index := Scalar.indexCast v306
  let c34 : Index := 34#32
  let c0_238 : Index := 0#32
  let c0_239 : Index := 0#32
  ![v409.toNat, 34, 0, 0]
def k0_off37 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v412 : Index := Scalar.indexCast v306
  let c35 : Index := 35#32
  let c0_240 : Index := 0#32
  let c0_241 : Index := 0#32
  ![v412.toNat, 35, 0, 0]
def k0_off38 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v415 : Index := Scalar.indexCast v306
  let c36 : Index := 36#32
  let c0_242 : Index := 0#32
  let c0_243 : Index := 0#32
  ![v415.toNat, 36, 0, 0]
def k0_off39 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v418 : Index := Scalar.indexCast v306
  let c37 : Index := 37#32
  let c0_244 : Index := 0#32
  let c0_245 : Index := 0#32
  ![v418.toNat, 37, 0, 0]
def k0_off40 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v421 : Index := Scalar.indexCast v306
  let c38 : Index := 38#32
  let c0_246 : Index := 0#32
  let c0_247 : Index := 0#32
  ![v421.toNat, 38, 0, 0]
def k0_off41 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v424 : Index := Scalar.indexCast v306
  let c39 : Index := 39#32
  let c0_248 : Index := 0#32
  let c0_249 : Index := 0#32
  ![v424.toNat, 39, 0, 0]
def k0_off42 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v427 : Index := Scalar.indexCast v306
  let c40 : Index := 40#32
  let c0_250 : Index := 0#32
  let c0_251 : Index := 0#32
  ![v427.toNat, 40, 0, 0]
def k0_off43 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v430 : Index := Scalar.indexCast v306
  let c41 : Index := 41#32
  let c0_252 : Index := 0#32
  let c0_253 : Index := 0#32
  ![v430.toNat, 41, 0, 0]
def k0_off44 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v433 : Index := Scalar.indexCast v306
  let c42 : Index := 42#32
  let c0_254 : Index := 0#32
  let c0_255 : Index := 0#32
  ![v433.toNat, 42, 0, 0]
def k0_off45 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v436 : Index := Scalar.indexCast v306
  let c43 : Index := 43#32
  let c0_256 : Index := 0#32
  let c0_257 : Index := 0#32
  ![v436.toNat, 43, 0, 0]
def k0_off46 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v439 : Index := Scalar.indexCast v306
  let c44 : Index := 44#32
  let c0_258 : Index := 0#32
  let c0_259 : Index := 0#32
  ![v439.toNat, 44, 0, 0]
def k0_off47 (k0_t1 : Fin k0_t1_loop.trips) (c0_i32_153 : BitVec 32) : Fin 4 → Nat :=
  let c0_i32_149 : BitVec 32 := 0#32
  let c1_i32 : BitVec 32 := 1#32
  let arg10 : BitVec 32 := Scf.iv c0_i32_149 c1_i32 k0_t1
  let c2_i32 : BitVec 32 := 2#32
  let v305 : BitVec 32 := Scalar.muli arg10 c2_i32
  let v306 : BitVec 32 := Scalar.addi v305 c0_i32_153
  let v442 : Index := Scalar.indexCast v306
  let c45 : Index := 45#32
  let c0_260 : Index := 0#32
  let c0_261 : Index := 0#32
  ![v442.toNat, 45, 0, 0]
def k0_cond2 (i : grid0.Coords) : BitVec 1 :=
  let arg0 : BitVec 32 := BitVec.ofNat 32 (i 0).val
  let c239_i32 : BitVec 32 := 239#32
  let v297 : BitVec 1 := Scalar.cmpi .eq arg0 c239_i32
  let v298 : BitVec 32 := Scalar.extui v297
  let c0_i32_151 : BitVec 32 := 0#32
  let v299 : BitVec 1 := Scalar.cmpi .ne v298 c0_i32_151
  v299

@[reducible] def k0_t2_loop : Scf.Loop 32 :=
  let c0_i32_152 : BitVec 32 := 0#32
  let c32_i32 : BitVec 32 := 32#32
  let v300 : BitVec 32 := Scalar.addi c0_i32_152 c32_i32
  let c1_i32_153 : BitVec 32 := 1#32
  ⟨c0_i32_152, v300, c1_i32_153⟩
def k0_off48 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v301 : Index := Scalar.indexCast arg10
  let c0_155 : Index := 0#32
  let c0_156 : Index := 0#32
  let c0_157 : Index := 0#32
  ![v301.toNat, 0, 0, 0]
def k0_off49 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v304 : Index := Scalar.indexCast arg10
  let c1_158 : Index := 1#32
  let c0_159 : Index := 0#32
  let c0_160 : Index := 0#32
  ![v304.toNat, 1, 0, 0]
def k0_off50 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v307 : Index := Scalar.indexCast arg10
  let c2_161 : Index := 2#32
  let c0_162 : Index := 0#32
  let c0_163 : Index := 0#32
  ![v307.toNat, 2, 0, 0]
def k0_off51 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v310 : Index := Scalar.indexCast arg10
  let c3_164 : Index := 3#32
  let c0_165 : Index := 0#32
  let c0_166 : Index := 0#32
  ![v310.toNat, 3, 0, 0]
def k0_off52 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v313 : Index := Scalar.indexCast arg10
  let c4_167 : Index := 4#32
  let c0_168 : Index := 0#32
  let c0_169 : Index := 0#32
  ![v313.toNat, 4, 0, 0]
def k0_off53 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v316 : Index := Scalar.indexCast arg10
  let c5_170 : Index := 5#32
  let c0_171 : Index := 0#32
  let c0_172 : Index := 0#32
  ![v316.toNat, 5, 0, 0]
def k0_off54 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v319 : Index := Scalar.indexCast arg10
  let c6_173 : Index := 6#32
  let c0_174 : Index := 0#32
  let c0_175 : Index := 0#32
  ![v319.toNat, 6, 0, 0]
def k0_off55 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v322 : Index := Scalar.indexCast arg10
  let c7_176 : Index := 7#32
  let c0_177 : Index := 0#32
  let c0_178 : Index := 0#32
  ![v322.toNat, 7, 0, 0]
def k0_off56 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v325 : Index := Scalar.indexCast arg10
  let c8_179 : Index := 8#32
  let c0_180 : Index := 0#32
  let c0_181 : Index := 0#32
  ![v325.toNat, 8, 0, 0]
def k0_off57 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v328 : Index := Scalar.indexCast arg10
  let c9_182 : Index := 9#32
  let c0_183 : Index := 0#32
  let c0_184 : Index := 0#32
  ![v328.toNat, 9, 0, 0]
def k0_off58 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v331 : Index := Scalar.indexCast arg10
  let c10_185 : Index := 10#32
  let c0_186 : Index := 0#32
  let c0_187 : Index := 0#32
  ![v331.toNat, 10, 0, 0]
def k0_off59 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v353 : Index := Scalar.indexCast arg10
  let c11_188 : Index := 11#32
  let c0_189 : Index := 0#32
  let c0_190 : Index := 0#32
  ![v353.toNat, 11, 0, 0]
def k0_off60 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v375 : Index := Scalar.indexCast arg10
  let c12_191 : Index := 12#32
  let c0_192 : Index := 0#32
  let c0_193 : Index := 0#32
  ![v375.toNat, 12, 0, 0]
def k0_off61 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v397 : Index := Scalar.indexCast arg10
  let c13_194 : Index := 13#32
  let c0_195 : Index := 0#32
  let c0_196 : Index := 0#32
  ![v397.toNat, 13, 0, 0]
def k0_off62 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v419 : Index := Scalar.indexCast arg10
  let c14_197 : Index := 14#32
  let c0_198 : Index := 0#32
  let c0_199 : Index := 0#32
  ![v419.toNat, 14, 0, 0]
def k0_off63 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v441 : Index := Scalar.indexCast arg10
  let c15_200 : Index := 15#32
  let c0_201 : Index := 0#32
  let c0_202 : Index := 0#32
  ![v441.toNat, 15, 0, 0]
def k0_off64 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v463 : Index := Scalar.indexCast arg10
  let c16 : Index := 16#32
  let c0_203 : Index := 0#32
  let c0_204 : Index := 0#32
  ![v463.toNat, 16, 0, 0]
def k0_off65 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v485 : Index := Scalar.indexCast arg10
  let c17 : Index := 17#32
  let c0_205 : Index := 0#32
  let c0_206 : Index := 0#32
  ![v485.toNat, 17, 0, 0]
def k0_off66 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v507 : Index := Scalar.indexCast arg10
  let c18 : Index := 18#32
  let c0_207 : Index := 0#32
  let c0_208 : Index := 0#32
  ![v507.toNat, 18, 0, 0]
def k0_off67 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v529 : Index := Scalar.indexCast arg10
  let c19 : Index := 19#32
  let c0_209 : Index := 0#32
  let c0_210 : Index := 0#32
  ![v529.toNat, 19, 0, 0]
def k0_off68 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v551 : Index := Scalar.indexCast arg10
  let c20 : Index := 20#32
  let c0_211 : Index := 0#32
  let c0_212 : Index := 0#32
  ![v551.toNat, 20, 0, 0]
def k0_off69 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v573 : Index := Scalar.indexCast arg10
  let c21 : Index := 21#32
  let c0_213 : Index := 0#32
  let c0_214 : Index := 0#32
  ![v573.toNat, 21, 0, 0]
def k0_off70 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v595 : Index := Scalar.indexCast arg10
  let c22 : Index := 22#32
  let c0_215 : Index := 0#32
  let c0_216 : Index := 0#32
  ![v595.toNat, 22, 0, 0]
def k0_off71 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v617 : Index := Scalar.indexCast arg10
  let c23 : Index := 23#32
  let c0_217 : Index := 0#32
  let c0_218 : Index := 0#32
  ![v617.toNat, 23, 0, 0]
def k0_off72 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v639 : Index := Scalar.indexCast arg10
  let c24 : Index := 24#32
  let c0_219 : Index := 0#32
  let c0_220 : Index := 0#32
  ![v639.toNat, 24, 0, 0]
def k0_off73 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v661 : Index := Scalar.indexCast arg10
  let c25 : Index := 25#32
  let c0_221 : Index := 0#32
  let c0_222 : Index := 0#32
  ![v661.toNat, 25, 0, 0]
def k0_off74 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v683 : Index := Scalar.indexCast arg10
  let c26 : Index := 26#32
  let c0_223 : Index := 0#32
  let c0_224 : Index := 0#32
  ![v683.toNat, 26, 0, 0]
def k0_off75 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v705 : Index := Scalar.indexCast arg10
  let c27 : Index := 27#32
  let c0_225 : Index := 0#32
  let c0_226 : Index := 0#32
  ![v705.toNat, 27, 0, 0]
def k0_off76 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v727 : Index := Scalar.indexCast arg10
  let c28 : Index := 28#32
  let c0_227 : Index := 0#32
  let c0_228 : Index := 0#32
  ![v727.toNat, 28, 0, 0]
def k0_off77 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v749 : Index := Scalar.indexCast arg10
  let c29 : Index := 29#32
  let c0_229 : Index := 0#32
  let c0_230 : Index := 0#32
  ![v749.toNat, 29, 0, 0]
def k0_off78 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v771 : Index := Scalar.indexCast arg10
  let c30 : Index := 30#32
  let c0_231 : Index := 0#32
  let c0_232 : Index := 0#32
  ![v771.toNat, 30, 0, 0]
def k0_off79 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v793 : Index := Scalar.indexCast arg10
  let c31 : Index := 31#32
  let c0_233 : Index := 0#32
  let c0_234 : Index := 0#32
  ![v793.toNat, 31, 0, 0]
def k0_off80 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v815 : Index := Scalar.indexCast arg10
  let c32 : Index := 32#32
  let c0_235 : Index := 0#32
  let c0_236 : Index := 0#32
  ![v815.toNat, 32, 0, 0]
def k0_off81 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v837 : Index := Scalar.indexCast arg10
  let c33 : Index := 33#32
  let c0_237 : Index := 0#32
  let c0_238 : Index := 0#32
  ![v837.toNat, 33, 0, 0]
def k0_off82 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v859 : Index := Scalar.indexCast arg10
  let c34 : Index := 34#32
  let c0_239 : Index := 0#32
  let c0_240 : Index := 0#32
  ![v859.toNat, 34, 0, 0]
def k0_off83 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v881 : Index := Scalar.indexCast arg10
  let c35 : Index := 35#32
  let c0_241 : Index := 0#32
  let c0_242 : Index := 0#32
  ![v881.toNat, 35, 0, 0]
def k0_off84 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v903 : Index := Scalar.indexCast arg10
  let c36 : Index := 36#32
  let c0_243 : Index := 0#32
  let c0_244 : Index := 0#32
  ![v903.toNat, 36, 0, 0]
def k0_off85 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v925 : Index := Scalar.indexCast arg10
  let c37 : Index := 37#32
  let c0_245 : Index := 0#32
  let c0_246 : Index := 0#32
  ![v925.toNat, 37, 0, 0]
def k0_off86 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v947 : Index := Scalar.indexCast arg10
  let c38 : Index := 38#32
  let c0_247 : Index := 0#32
  let c0_248 : Index := 0#32
  ![v947.toNat, 38, 0, 0]
def k0_off87 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v969 : Index := Scalar.indexCast arg10
  let c39 : Index := 39#32
  let c0_249 : Index := 0#32
  let c0_250 : Index := 0#32
  ![v969.toNat, 39, 0, 0]
def k0_off88 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v991 : Index := Scalar.indexCast arg10
  let c40 : Index := 40#32
  let c0_251 : Index := 0#32
  let c0_252 : Index := 0#32
  ![v991.toNat, 40, 0, 0]
def k0_off89 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v1013 : Index := Scalar.indexCast arg10
  let c41 : Index := 41#32
  let c0_253 : Index := 0#32
  let c0_254 : Index := 0#32
  ![v1013.toNat, 41, 0, 0]
def k0_off90 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v1035 : Index := Scalar.indexCast arg10
  let c42 : Index := 42#32
  let c0_255 : Index := 0#32
  let c0_256 : Index := 0#32
  ![v1035.toNat, 42, 0, 0]
def k0_off91 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v1057 : Index := Scalar.indexCast arg10
  let c43 : Index := 43#32
  let c0_257 : Index := 0#32
  let c0_258 : Index := 0#32
  ![v1057.toNat, 43, 0, 0]
def k0_off92 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v1079 : Index := Scalar.indexCast arg10
  let c44 : Index := 44#32
  let c0_259 : Index := 0#32
  let c0_260 : Index := 0#32
  ![v1079.toNat, 44, 0, 0]
def k0_off93 (k0_t2 : Fin k0_t2_loop.trips) : Fin 4 → Nat :=
  let c0_i32_152 : BitVec 32 := 0#32
  let c1_i32_153 : BitVec 32 := 1#32
  let arg10 : BitVec 32 := Scf.iv c0_i32_152 c1_i32_153 k0_t2
  let v1101 : Index := Scalar.indexCast arg10
  let c45 : Index := 45#32
  let c0_261 : Index := 0#32
  let c0_262 : Index := 0#32
  ![v1101.toNat, 45, 0, 0]
def k0_mult2 (k0_t2 : Fin k0_t2_loop.trips) : BitVec 32 :=
  let c0_i32_152 : BitVec 32 := 0#32
  let c1_i32_153 : BitVec 32 := 1#32
  let arg10 : BitVec 32 := Scf.iv c0_i32_152 c1_i32_153 k0_t2
  let c128_i32 : BitVec 32 := 128#32
  let v1735 : BitVec 32 := Scalar.muli arg10 c128_i32
  v1735
def k0_off94 (k0_t2 : Fin k0_t2_loop.trips) : Fin 2 → Nat :=
  let c0_292 : Index := 0#32
  let c0_i32_152 : BitVec 32 := 0#32
  let c1_i32_153 : BitVec 32 := 1#32
  let arg10 : BitVec 32 := Scf.iv c0_i32_152 c1_i32_153 k0_t2
  let c128_i32 : BitVec 32 := 128#32
  let v1735 : BitVec 32 := Scalar.muli arg10 c128_i32
  let v1736 : BitVec 32 := v1735
  let v1738 : Index := Scalar.indexCast v1736
  ![0, v1738.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2x2048x768 : Shape := ⟨3, ![2, 2048, 768]⟩
abbrev S491520x768 : Shape := ⟨2, ![491520, 768]⟩
abbrev S491520 : Shape := ⟨1, ![491520]⟩
abbrev S4096x768 : Shape := ⟨2, ![4096, 768]⟩
abbrev S4096x491520 : Shape := ⟨2, ![4096, 491520]⟩
abbrev S1x491520 : Shape := ⟨2, ![1, 491520]⟩
abbrev S_ : Shape := ⟨0, ![]⟩
abbrev S4096x10 : Shape := ⟨2, ![4096, 10]⟩
abbrev S2x2048x10 : Shape := ⟨3, ![2, 2048, 10]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x768, .bf16⟩
  | .hbm, ⟨1, _⟩ => ⟨S491520x768, .i8⟩
  | .hbm, ⟨2, _⟩ => ⟨S491520, .f32⟩
  | .hbm, ⟨3, _⟩ => ⟨S491520, .f32⟩
  | .hbm, ⟨4, _⟩ => ⟨S4096x768, .bf16⟩
  | .hbm, ⟨5, _⟩ => ⟨S491520x768, .i32⟩
  | .hbm, ⟨6, _⟩ => ⟨S491520x768, .f32⟩
  | .hbm, ⟨7, _⟩ => ⟨S491520x768, .bf16⟩
  | .hbm, ⟨8, _⟩ => ⟨S4096x491520, .f32⟩
  | .hbm, ⟨9, _⟩ => ⟨S1x491520, .f32⟩
  | .hbm, ⟨10, _⟩ => ⟨S4096x491520, .f32⟩
  | .hbm, ⟨11, _⟩ => ⟨S4096x491520, .f32⟩
  | .hbm, ⟨12, _⟩ => ⟨S_, .f32⟩
  | .hbm, ⟨13, _⟩ => ⟨S4096x491520, .f32⟩
  | .hbm, ⟨14, _⟩ => ⟨S4096x491520, .f32⟩
  | .hbm, ⟨15, _⟩ => ⟨S1x491520, .f32⟩
  | .hbm, ⟨16, _⟩ => ⟨S4096x491520, .f32⟩
  | .hbm, ⟨17, _⟩ => ⟨S4096x491520, .f32⟩
  | .hbm, ⟨18, _⟩ => ⟨S4096x10, .f32⟩
  | .hbm, ⟨19, _⟩ => ⟨S4096x10, .i32⟩
  | .hbm, ⟨20, _⟩ => ⟨S2x2048x10, .f32⟩
  | _, _ => ⟨S2x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Streams.lean ====
/-
  The kernel's state at one place of a vector: a fixed family of short descending lists ("streams"), and what pushing one
  group of sixteen values through the tree of comparators does to it. Everything is stated over any type with two binary
  operations `mx` and `mn`, so that one definition serves a whole vector (elementwise maximum and minimum) and one
  element of it.

  The tree has four levels. Each level pairs its values up and splits the pairs into the larger ones (`h`) and the
  smaller ones (`l`); a stream is named by its path, and a path with one more `l` keeps half as many values, rounded
  down: ten for `hhhh`, five with one `l`, two with two, one with three, none for `llll`.
-/
module

public import Mathlib.Data.Nat.Notation

@[expose] public section

namespace Cert.TopK

variable {V W : Type}

/-- A stream of two values. -/
structure S2 (V : Type) where
  (a0 a1 : V)

/-- A stream of five values. -/
structure S5 (V : Type) where
  (a0 a1 a2 a3 a4 : V)

/-- A stream of ten values. -/
structure S10 (V : Type) where
  (a0 a1 a2 a3 a4 a5 a6 a7 a8 a9 : V)

/-- The whole state: the fifteen streams in the order in which the kernel stores them. -/
structure St (V : Type) where
  hhhh : S10 V
  hhhl : S5 V
  hhlh : S5 V
  hhll : S2 V
  hlhh : S5 V
  hlhl : S2 V
  hllh : S2 V
  hlll : V
  lhhh : S5 V
  lhhl : S2 V
  lhlh : S2 V
  lhll : V
  llhh : S2 V
  llhl : V
  lllh : V

/-- Insert `v` into a stream: at each place keep the larger, hand the smaller on. -/
def ins2 (mx mn : V → V → V) (s : S2 V) (v : V) : S2 V :=
  ⟨mx s.a0 v, mx s.a1 (mn s.a0 v)⟩

/-- `ins2` for five places. -/
def ins5 (mx mn : V → V → V) (s : S5 V) (v : V) : S5 V :=
  ⟨mx s.a0 v, mx s.a1 (mn s.a0 v), mx s.a2 (mn s.a1 (mn s.a0 v)), mx s.a3 (mn s.a2 (mn s.a1 (mn s.a0 v))),
   mx s.a4 (mn s.a3 (mn s.a2 (mn s.a1 (mn s.a0 v))))⟩

/-- `ins2` for ten places. -/
def ins10 (mx mn : V → V → V) (s : S10 V) (v : V) : S10 V :=
  ⟨mx s.a0 v, mx s.a1 (mn s.a0 v), mx s.a2 (mn s.a1 (mn s.a0 v)), mx s.a3 (mn s.a2 (mn s.a1 (mn s.a0 v))),
   mx s.a4 (mn s.a3 (mn s.a2 (mn s.a1 (mn s.a0 v)))),
   mx s.a5 (mn s.a4 (mn s.a3 (mn s.a2 (mn s.a1 (mn s.a0 v))))),
   mx s.a6 (mn s.a5 (mn s.a4 (mn s.a3 (mn s.a2 (mn s.a1 (mn s.a0 v)))))),
   mx s.a7 (mn s.a6 (mn s.a5 (mn s.a4 (mn s.a3 (mn s.a2 (mn s.a1 (mn s.a0 v))))))),
   mx s.a8 (mn s.a7 (mn s.a6 (mn s.a5 (mn s.a4 (mn s.a3 (mn s.a2 (mn s.a1 (mn s.a0 v)))))))),
   mx s.a9 (mn s.a8 (mn s.a7 (mn s.a6 (mn s.a5 (mn s.a4 (mn s.a3 (mn s.a2 (mn s.a1 (mn s.a0 v)))))))))⟩

/-- One level of the tree: combine the values two by two with `op`. -/
def pair (op : V → V → V) (v : ℕ → V) : ℕ → V := fun j => op (v (2 * j)) (v (2 * j + 1))

/-- Push sixteen values `v 0 … v 15` through the tree and insert what arrives at each stream. -/
def gstep (mx mn : V → V → V) (s : St V) (v : ℕ → V) : St V where
  hhhh := ins10 mx mn s.hhhh (pair mx (pair mx (pair mx (pair mx v))) 0)
  hhhl := ins5 mx mn s.hhhl (pair mn (pair mx (pair mx (pair mx v))) 0)
  hhlh := ins5 mx mn s.hhlh (pair mx (pair mn (pair mx (pair mx v))) 0)
  hhll := ins2 mx mn s.hhll (pair mn (pair mn (pair mx (pair mx v))) 0)
  hlhh := ins5 mx mn s.hlhh (pair mx (pair mx (pair mn (pair mx v))) 0)
  hlhl := ins2 mx mn s.hlhl (pair mn (pair mx (pair mn (pair mx v))) 0)
  hllh := ins2 mx mn s.hllh (pair mx (pair mn (pair mn (pair mx v))) 0)
  hlll := mx s.hlll (pair mn (pair mn (pair mn (pair mx v))) 0)
  lhhh := ins5 mx mn s.lhhh (pair mx (pair mx (pair mx (pair mn v))) 0)
  lhhl := ins2 mx mn s.lhhl (pair mn (pair mx (pair mx (pair mn v))) 0)
  lhlh := ins2 mx mn s.lhlh (pair mx (pair mn (pair mx (pair mn v))) 0)
  lhll := mx s.lhll (pair mn (pair mn (pair mx (pair mn v))) 0)
  llhh := ins2 mx mn s.llhh (pair mx (pair mx (pair mn (pair mn v))) 0)
  llhl := mx s.llhl (pair mn (pair mx (pair mn (pair mn v))) 0)
  lllh := mx s.lllh (pair mx (pair mn (pair mn (pair mn v))) 0)

/-- The groups `0 … n - 1`, pushed in order. -/
def gsteps (mx mn : V → V → V) (s : St V) (v : ℕ → ℕ → V) : ℕ → St V
  | 0 => s
  | n + 1 => gstep mx mn (gsteps mx mn s v n) (v n)

/-- The state whose value at place `i` of the stored order is `f i`. -/
def St.of (f : ℕ → V) : St V where
  hhhh := ⟨f 0, f 1, f 2, f 3, f 4, f 5, f 6, f 7, f 8, f 9⟩
  hhhl := ⟨f 10, f 11, f 12, f 13, f 14⟩
  hhlh := ⟨f 15, f 16, f 17, f 18, f 19⟩
  hhll := ⟨f 20, f 21⟩
  hlhh := ⟨f 22, f 23, f 24, f 25, f 26⟩
  hlhl := ⟨f 27, f 28⟩
  hllh := ⟨f 29, f 30⟩
  hlll := f 31
  lhhh := ⟨f 32, f 33, f 34, f 35, f 36⟩
  lhhl := ⟨f 37, f 38⟩
  lhlh := ⟨f 39, f 40⟩
  lhll := f 41
  llhh := ⟨f 42, f 43⟩
  llhl := f 44
  lllh := f 45

/-- The state's values in the stored order. -/
def St.list (s : St V) : List V :=
  [s.hhhh.a0, s.hhhh.a1, s.hhhh.a2, s.hhhh.a3, s.hhhh.a4, s.hhhh.a5, s.hhhh.a6, s.hhhh.a7, s.hhhh.a8, s.hhhh.a9,
   s.hhhl.a0, s.hhhl.a1, s.hhhl.a2, s.hhhl.a3, s.hhhl.a4,
   s.hhlh.a0, s.hhlh.a1, s.hhlh.a2, s.hhlh.a3, s.hhlh.a4,
   s.hhll.a0, s.hhll.a1,
   s.hlhh.a0, s.hlhh.a1, s.hlhh.a2, s.hlhh.a3, s.hlhh.a4,
   s.hlhl.a0, s.hlhl.a1, s.hllh.a0, s.hllh.a1, s.hlll,
   s.lhhh.a0, s.lhhh.a1, s.lhhh.a2, s.lhhh.a3, s.lhhh.a4,
   s.lhhl.a0, s.lhhl.a1, s.lhlh.a0, s.lhlh.a1, s.lhll,
   s.llhh.a0, s.llhh.a1, s.llhl, s.lllh]

/-- Apply `f` to every value of a stream of ten. -/
def S10.map (f : V → W) (s : S10 V) : S10 W :=
  ⟨f s.a0, f s.a1, f s.a2, f s.a3, f s.a4, f s.a5, f s.a6, f s.a7, f s.a8, f s.a9⟩

/-- Apply `f` to every value of a stream of five. -/
def S5.map (f : V → W) (s : S5 V) : S5 W := ⟨f s.a0, f s.a1, f s.a2, f s.a3, f s.a4⟩

/-- Apply `f` to every value of a stream of two. -/
def S2.map (f : V → W) (s : S2 V) : S2 W := ⟨f s.a0, f s.a1⟩

/-- Apply `f` to every value of the state. -/
def St.map (f : V → W) (s : St V) : St W where
  hhhh := s.hhhh.map f
  hhhl := s.hhhl.map f
  hhlh := s.hhlh.map f
  hhll := s.hhll.map f
  hlhh := s.hlhh.map f
  hlhl := s.hlhl.map f
  hllh := s.hllh.map f
  hlll := f s.hlll
  lhhh := s.lhhh.map f
  lhhl := s.lhhl.map f
  lhlh := s.lhlh.map f
  lhll := f s.lhll
  llhh := s.llhh.map f
  llhl := f s.llhl
  lllh := f s.lllh

/-- The final merge inside one place: every other stream's values, in the stored order, into the stream of ten. -/
def merge (mx mn : V → V → V) (s : St V) : S10 V :=
  (s.list.drop 10).foldl (ins10 mx mn) s.hhhh

/-- The values of a stream of ten, in order. -/
def S10.list (s : S10 V) : List V := [s.a0, s.a1, s.a2, s.a3, s.a4, s.a5, s.a6, s.a7, s.a8, s.a9]

/-- Insert all ten values of `t` into `s`, in order. -/
def absorb (mx mn : V → V → V) (s t : S10 V) : S10 V := t.list.foldl (ins10 mx mn) s

/-- One step of the final merge across places: `r` moves a vector's values to other places, and every place takes in the
    ten values that arrive. -/
def cross (mx mn : V → V → V) (r : V → V) (s : S10 V) : S10 V := absorb mx mn s (s.map r)

section Map

variable {mx mn : V → V → V} {mx' mn' : W → W → W} {f : V → W}
  (hx : ∀ a b, f (mx a b) = mx' (f a) (f b)) (hn : ∀ a b, f (mn a b) = mn' (f a) (f b))
include hx hn

/-- Inserting commutes with a map that carries `mx` and `mn` over. -/
theorem ins10_map (s : S10 V) (v : V) : (ins10 mx mn s v).map f = ins10 mx' mn' (s.map f) (f v) := by
  simp only [ins10, S10.map, hx, hn]

theorem ins5_map (s : S5 V) (v : V) : (ins5 mx mn s v).map f = ins5 mx' mn' (s.map f) (f v) := by
  simp only [ins5, S5.map, hx, hn]

theorem ins2_map (s : S2 V) (v : V) : (ins2 mx mn s v).map f = ins2 mx' mn' (s.map f) (f v) := by
  simp only [ins2, S2.map, hx, hn]

/-- Pushing a group commutes with a map that carries `mx` and `mn` over. -/
theorem gstep_map (s : St V) (v : ℕ → V) :
    (gstep mx mn s v).map f = gstep mx' mn' (s.map f) (fun i => f (v i)) := by
  simp only [gstep, St.map, ins10_map hx hn, ins5_map hx hn, ins2_map hx hn, pair, hx, hn]

/-- So does pushing any number of groups. -/
theorem gsteps_map (s : St V) (v : ℕ → ℕ → V) (n : ℕ) :
    (gsteps mx mn s v n).map f = gsteps mx' mn' (s.map f) (fun g i => f (v g i)) n := by
  induction n with
  | zero => rfl
  | succ n ih => rw [gsteps, gstep_map hx hn, ih, gsteps]

/-- And inserting a list. -/
theorem foldl_ins10_map (l : List V) (s : S10 V) :
    (l.foldl (ins10 mx mn) s).map f = (l.map f).foldl (ins10 mx' mn') (s.map f) := by
  induction l generalizing s with
  | nil => rfl
  | cons a l ih => rw [List.foldl_cons, ih, ins10_map hx hn]; rfl

theorem merge_map (s : St V) : (merge mx mn s).map f = merge mx' mn' (s.map f) :=
  foldl_ins10_map hx hn _ _

theorem absorb_map (s t : S10 V) : (absorb mx mn s t).map f = absorb mx' mn' (s.map f) (t.map f) :=
  foldl_ins10_map hx hn _ _

end Map

end Cert.TopK
-- ==== Proof.Trip.lean ====
/-
  One trip of the kernel's loop over queries, as the generated run found it: which vectors it stores and where. A trip
  takes 256 queries, two halves of 128. For each half it loads the 46 vectors of state, pushes the scores of 256 database
  vectors of eight rows (sixteen groups of sixteen) through the tree, and stores the 46 vectors back.
-/
module

public import proofs.«01_k».proof.Proof.Streams
public import proofs.«01_k».proof.Proof.Gen.KernelIdeal.Loops
public import Idealize.ShloMosaic.Lib.WritesUnit
public import Idealize.ShloMosaic.PureOps.Ideal

@[expose] public section

noncomputable section

namespace Cert.TopK

open Idealize.ShloMosaic Idealize.ShloMosaic.TcCoe Cert.KernelIdeal Cert.KernelIdeal.Gen

/-- A vector of eight places of 128 lanes. -/
abbrev Tile := FVec Ideal S8x128 .f32

/-- The block of eight rows from `r` and 128 columns from `c` of a product. -/
def cut (d : FVec Ideal S512x256 .f32) (r c : ℕ) : Tile :=
  if h : r ≤ 504 ∧ c ≤ 128 then
    extractStridedSlice S8x128 ![r, c] d ⟨rfl, Fin.forall_fin_two.mpr ⟨by
      show r + 8 ≤ 512
      omega, by
      show c + 128 ≤ 256
      omega⟩⟩
  else fun _ => (⊥ : EReal)

/-- The offsets of eight rows of a column buffer. -/
theorem rows_inb (m : ℕ) (h : m < 256) : ∀ a, (![8 * m, 0] : Fin 2 → ℕ) a + S8x128.size a ≤ S2048x128.size a :=
  Fin.forall_fin_two.mpr ⟨by
    show 8 * m + 8 ≤ 2048
    omega, by
    show 0 + 128 ≤ 128
    omega⟩

/-- The eight rows `8 m … 8 m + 7` of a buffer of 2048 rows. -/
def rows (v : View sig .tc .vmem S2048x128 .f32) (X : BufTy.Contents (Elt Ideal) v.ty) (m : ℕ) : Tile :=
  if h : m < 256 then v.readAt (Elt Ideal) (Rect.unit (s := S2048x128) ![8 * m, 0] S8x128.size (rows_inb m h)).toLoadRect X
  else fun _ => (⊥ : EReal)

theorem codes_inb (u : ℕ) (h : u < 4) : ∀ a, (![512 * u, 0] : Fin 2 → ℕ) a + S512x768.size a ≤ S2048x768.size a :=
  Fin.forall_fin_two.mpr ⟨by
    show 512 * u + 512 ≤ 2048
    omega, by
    show 0 + 768 ≤ 768
    omega⟩

/-- The product of 512 rows of codes with the trip's 256 queries. -/
def prod (arg4 : Memref sig .tc .vmem S768x4096 .bf16) (arg6 : Memref sig .tc .vmem S2048x768 .bf16)
    (X4 : BufTy.Contents (Elt Ideal) arg4.view.ty) (X6 : BufTy.Contents (Elt Ideal) arg6.view.ty)
    (k : Fin k0_t1_loop.trips) (u : ℕ) : FVec Ideal S512x256 .f32 :=
  if h : u < 4 then
    k0_pay102 (k0_pay9 (arg4.view.readAt (Elt Ideal) (Rect.unit (s := S768x4096) (k0_off1 k) S768x256.size (k0_off1_inb k)).toLoadRect X4))
      (arg6.view.readAt (Elt Ideal) (Rect.unit (s := S2048x768) ![512 * u, 0] S512x768.size (codes_inb u h)).toLoadRect X6)
  else fun _ => (⊥ : EReal)

/-- Where vector `i` of the state of half `h` lies. -/
def place (k : Fin k0_t1_loop.trips) (h i : ℕ) : Fin 4 → ℕ := ![k0_off2 k (BitVec.ofNat 32 h) 0, i, 0, 0]

theorem place_inb (k : Fin k0_t1_loop.trips) (h i : ℕ) (hh : h < 2) (hi : i < 46) :
    ∀ a, place k h i a + S1x1x8x128.size a ≤ S32x46x8x128.size a := by
  have h0 := k0_off2_inb k ⟨h, hh⟩ 0
  intro a
  fin_cases a
  · exact h0
  · show i + 1 ≤ 46
    omega
  · show 0 + 8 ≤ 8
    omega
  · show 0 + 128 ≤ 128
    omega

/-- Vector `i` of the state of half `h`, loaded. -/
def load (arg9 : Memref sig .tc .vmem S32x46x8x128 .f32) (X9 : BufTy.Contents (Elt Ideal) arg9.view.ty)
    (k : Fin k0_t1_loop.trips) (h i : ℕ) : Tile :=
  if hi : h < 2 ∧ i < 46 then
    k0_pay10 (arg9.view.readAt (Elt Ideal) (Rect.unit (s := S32x46x8x128) (place k h i) S1x1x8x128.size (place_inb k h i hi.1 hi.2)).toLoadRect X9)
  else fun _ => (⊥ : EReal)

/-- The scores of the eight rows `8 (16 n + i) …` against half `h` of the trip's queries. -/
def score (d : ℕ → FVec Ideal S512x256 .f32) (sc sq : ℕ → Tile) (h n i : ℕ) : Tile :=
  subf (mulf (cut (d (n / 4)) (8 * (16 * (n % 4) + i)) (128 * h)) (sc (16 * n + i))) (sq (16 * n + i))

/-- The state of half `h` after a trip. -/
def after (d : ℕ → FVec Ideal S512x256 .f32) (sc sq : ℕ → Tile) (ld : ℕ → ℕ → Tile) (h : ℕ) : St Tile :=
  gsteps maximumf minimumf (St.of (ld h)) (score d sc sq h) 16

/-- Vector `i` of a state. -/
def St.get (s : St Tile) (i : ℕ) : Tile := s.list.getD i fun _ => (⊥ : EReal)

/-- The 46 stores of half `h`, last first. -/
def stores (k : Fin k0_t1_loop.trips) (h : ℕ) (hh : h < 2) (s : St Tile) : List (View.Piece (Elt Ideal) S32x46x8x128 .f32) :=
  View.tilePieces (NT := 46) (e := .f32) (Val := Elt Ideal) S1x1x8x128.size (fun i => place k h i.val)
    (fun i => place_inb k h i.val hh i.isLt) (fun i => k0_pay4 (s.get i.val)) 46 le_rfl

set_option maxRecDepth 65536 in
/-- What one trip stores. -/
theorem trip_stores (𝒱 : Variants) (c : Dev nD) (bd : Option 𝒱.V) (i : grid0.Coords) (arg1 : Memref sig .tc .vmem S2048x768 .i8) (harg1 : arg1.IsWhole) (arg2 : Memref sig .tc .vmem S1x16x128 .f32) (harg2 : arg2.IsWhole) (arg3 : Memref sig .tc .vmem S1x16x128 .f32) (harg3 : arg3.IsWhole) (arg4 : Memref sig .tc .vmem S768x4096 .bf16) (harg4 : arg4.IsWhole) (arg5 : Memref sig .tc .vmem S16x4096 .f32) (harg5 : arg5.IsWhole) (arg6 : Memref sig .tc .vmem S2048x768 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S32x46x8x128 .f32) (harg9 : arg9.IsWhole) (X4 : BufTy.Contents (Elt Ideal) arg4.view.ty) (X6 : BufTy.Contents (Elt Ideal) arg6.view.ty) (X7 : BufTy.Contents (Elt Ideal) arg7.view.ty) (X8 : BufTy.Contents (Elt Ideal) arg8.view.ty) (k : Fin k0_t1_loop.trips)
    (f : BufTy.Contents (Elt Ideal) arg9.view.ty) :
    tripL_k0_t1 (F := Ideal) 𝒱 c bd i arg1 harg1 arg2 harg2 arg3 harg3 arg4 harg4 arg5 harg5 arg6 harg6 arg7 harg7 arg8 harg8 arg9 harg9 X4 X6 X7 X8 k f
      = stores k 1 (by decide) (after (prod arg4 arg6 X4 X6 k) (rows arg7.view X7) (rows arg8.view X8) (load arg9 f k) 1)
        ++ stores k 0 (by decide) (after (prod arg4 arg6 X4 X6 k) (rows arg7.view X7) (rows arg8.view X8) (load arg9 f k) 0) := by
  sl_kernel_rfl

end Cert.TopK
-- ==== Proof.Score.lean ====
/-
  The scores of a trip, place by place: what one entry of a tile of scores is in terms of the four arrays it is computed
  from.
-/
module

public import proofs.«01_k».proof.Proof.Trip
public import Idealize.ShloMosaic.Lib.MatmulPlain
public import Idealize.ShloMosaic.Lib.Pipeline.Value
public import Idealize.ShloMosaic.Lib.ValueIdx
public import Idealize.ShloMosaic.PureOps.Ideal.Laws
import Mathlib.Tactic.FinCases

@[expose] public section

noncomputable section

namespace Cert.TopK

open Idealize.ShloMosaic Idealize.ShloMosaic.TcCoe Idealize.ShloMosaic.ValueIdx Cert.KernelIdeal Cert.KernelIdeal.Gen

/-- The score of row `r` of the chunk against query `q`, from the codes, the queries, the column of doubled scales and
    the column of squared norms. -/
def es (cb : Vec Ideal S2048x768 .bf16) (w : Vec Ideal S768x4096 .bf16) (sb qb : Vec Ideal S2048x128 .f32)
    (r q : ℕ) : EReal :=
  if h : r < 2048 ∧ q < 4096 then
    (∑ k : Fin 768, cb (ix2 ⟨r, h.1⟩ k) * w (ix2 k ⟨q, h.2⟩))
        * sb (ix2 ⟨r, h.1⟩ ⟨q % 128, Nat.mod_lt _ (by decide)⟩)
      - qb (ix2 ⟨r, h.1⟩ ⟨q % 128, Nat.mod_lt _ (by decide)⟩)
  else ⊥

/-- The first column of the trip's queries. -/
theorem off1_val : ∀ k : Fin k0_t1_loop.trips, k0_off1 k 1 = 256 * k.val := by decide +kernel

theorem off1_zero : ∀ k : Fin k0_t1_loop.trips, k0_off1 k 0 = 0 := by decide +kernel

/-- The block of state of half `h` of trip `k`. -/
theorem off2_val : ∀ (k : Fin k0_t1_loop.trips) (h : Fin 2), k0_off2 k (BitVec.ofNat 32 h.val) 0 = 2 * k.val + h.val := by
  decide +kernel

/-- The number of trips. -/
theorem trips_eq : k0_t1_loop.trips = 16 := by decide +kernel

theorem trip_lt (k : Fin k0_t1_loop.trips) : k.val < 16 := lt_of_lt_of_eq k.isLt trips_eq

/-- A row of eight rows of a column buffer. -/
theorem rows_apply (v : View sig .tc .vmem S2048x128 .f32) (X : BufTy.Contents (Elt Ideal) v.ty) (m : ℕ) (hm : m < 256)
    (a : Fin 8) (b : Fin 128) :
    rows v X m (ix2 a b) = v.read (Elt Ideal) X (ix2 ⟨8 * m + a.val, by omega⟩ b) := by
  rw [rows, dif_pos hm, View.readAt_apply]
  refine congrArg (v.read (Elt Ideal) X) (funext fun j => Fin.ext ?_)
  fin_cases j
  · show 8 * m + 1 * a.val = 8 * m + a.val
    omega
  · show 0 + 1 * b.val = b.val
    omega

/-- An entry of a product. -/
theorem prod_apply (arg4 : Memref sig .tc .vmem S768x4096 .bf16) (arg6 : Memref sig .tc .vmem S2048x768 .bf16)
    (X4 : BufTy.Contents (Elt Ideal) arg4.view.ty) (X6 : BufTy.Contents (Elt Ideal) arg6.view.ty)
    (k : Fin k0_t1_loop.trips) (u : ℕ) (hu : u < 4) (r : Fin 512) (q : Fin 256) :
    prod arg4 arg6 X4 X6 k u (ix2 r q)
      = ∑ j : Fin 768, arg6.view.read (Elt Ideal) X6 (ix2 ⟨512 * u + r.val, by omega⟩ j)
          * arg4.view.read (Elt Ideal) X4 (ix2 j ⟨256 * k.val + q.val, by have := trip_lt k; omega⟩) := by
  have hd : dot_S512x768_S768x256_S512x256_1_0_0_1_n_n = DotDims.plain 512 768 256 := rfl
  rw [prod, dif_pos hu]
  show FloatOps.matmul (F := Ideal) dot_S512x768_S768x256_S512x256_1_0_0_1_n_n none _ _ _ (ix2 r q) = _
  rw [hd, Ideal.matmul_plain_apply]
  have h0 : (constant (F := Ideal) S512x256 .f32 0x00000000#32) (ix2 r q) = (0 : EReal) := Ideal.ofBits_zero_f32
  rw [h0, zero_add]
  refine Finset.sum_congr rfl fun j _ => congrArg₂ (· * ·) ?_ ?_
  · rw [View.readAt_apply]
    refine congrArg (arg6.view.read (Elt Ideal) X6) (funext fun x => Fin.ext ?_)
    fin_cases x
    · show 512 * u + 1 * r.val = 512 * u + r.val
      omega
    · show 0 + 1 * j.val = j.val
      omega
  · show k0_pay9 _ _ = _
    unfold k0_pay9
    rw [shapeCast_self _, View.readAt_apply]
    refine congrArg (arg4.view.read (Elt Ideal) X4) (funext fun x => Fin.ext ?_)
    fin_cases x
    · show k0_off1 k 0 + 1 * j.val = j.val
      rw [off1_zero]
      omega
    · show k0_off1 k 1 + 1 * q.val = 256 * k.val + q.val
      rw [off1_val]
      omega

/-- An entry of a tile of scores. -/
theorem score_apply (arg4 : Memref sig .tc .vmem S768x4096 .bf16) (arg6 : Memref sig .tc .vmem S2048x768 .bf16)
    (arg7 arg8 : Memref sig .tc .vmem S2048x128 .f32)
    (X4 : BufTy.Contents (Elt Ideal) arg4.view.ty) (X6 : BufTy.Contents (Elt Ideal) arg6.view.ty)
    (X7 : BufTy.Contents (Elt Ideal) arg7.view.ty) (X8 : BufTy.Contents (Elt Ideal) arg8.view.ty)
    (k : Fin k0_t1_loop.trips) (h n i : ℕ) (hh : h < 2) (hn : n < 16) (hi : i < 16) (a : Fin 8) (b : Fin 128) :
    score (prod arg4 arg6 X4 X6 k) (rows arg7.view X7) (rows arg8.view X8) h n i (ix2 a b)
      = es (arg6.view.read (Elt Ideal) X6) (arg4.view.read (Elt Ideal) X4) (arg7.view.read (Elt Ideal) X7)
          (arg8.view.read (Elt Ideal) X8) (8 * (16 * n + i) + a.val) (128 * (2 * k.val + h) + b.val) := by
  have hk := trip_lt k
  have ha := a.isLt
  have hb := b.isLt
  rw [es, dif_pos ⟨by omega, by omega⟩]
  show cut _ _ _ (ix2 a b) * rows _ _ _ (ix2 a b) - rows _ _ _ (ix2 a b) = _
  rw [rows_apply _ _ _ (by omega), rows_apply _ _ _ (by omega)]
  have hc : (⟨(128 * (2 * k.val + h) + b.val) % 128, Nat.mod_lt _ (by decide)⟩ : Fin 128) = b := Fin.ext (by
    show (128 * (2 * k.val + h) + b.val) % 128 = b.val
    omega)
  have hp : cut (prod arg4 arg6 X4 X6 k (n / 4)) (8 * (16 * (n % 4) + i)) (128 * h) (ix2 a b)
      = prod arg4 arg6 X4 X6 k (n / 4) (ix2 ⟨8 * (16 * (n % 4) + i) + a.val, by omega⟩ ⟨128 * h + b.val, by omega⟩) := by
    rw [cut, dif_pos ⟨by omega, by omega⟩]
    refine congrArg (prod arg4 arg6 X4 X6 k (n / 4)) (funext fun x => Fin.ext ?_)
    fin_cases x <;> rfl
  rw [hp, TopK.prod_apply _ _ _ _ _ _ (by omega)]
  have e1 : (⟨512 * (n / 4) + (8 * (16 * (n % 4) + i) + a.val), by omega⟩ : Fin 2048) = ⟨8 * (16 * n + i) + a.val, by omega⟩ :=
    Fin.ext (by
      show 512 * (n / 4) + (8 * (16 * (n % 4) + i) + a.val) = 8 * (16 * n + i) + a.val
      omega)
  have e2 : (⟨256 * k.val + (128 * h + b.val), by omega⟩ : Fin 4096) = ⟨128 * (2 * k.val + h) + b.val, by omega⟩ :=
    Fin.ext (by
      show 256 * k.val + (128 * h + b.val) = 128 * (2 * k.val + h) + b.val
      omega)
  rw [hc, ← e1, ← e2]

end Cert.TopK
-- ==== Proof.Loop.lean ====
/-
  The loop over queries, place by place: after it, the state at every place is the state before, with the scores of the
  chunk's 2048 rows pushed in, sixteen groups of sixteen.
-/
module

public import proofs.«01_k».proof.Proof.Score

@[expose] public section

noncomputable section

namespace Cert.TopK

open Idealize.ShloMosaic Idealize.ShloMosaic.TcCoe Idealize.ShloMosaic.ValueIdx Cert.KernelIdeal Cert.KernelIdeal.Gen

/-- The state at one place of the state array: block `t`, row `a`, lane `b`. -/
def stAt (x : Vec Ideal S32x46x8x128 .f32) (t : Fin 32) (a : Fin 8) (b : Fin 128) : St EReal :=
  St.of fun m => if hm : m < 46 then x (ix4 t ⟨m, hm⟩ a b) else ⊥

/-- Groups that agree push alike. -/
theorem gsteps_congr {V : Type} (mx mn : V → V → V) (s : St V) (v w : ℕ → ℕ → V) (n : ℕ)
    (h : ∀ g < n, ∀ i < 16, v g i = w g i) : gsteps mx mn s v n = gsteps mx mn s w n := by
  induction n with
  | zero => rfl
  | succ n ih =>
    rw [gsteps, gsteps, ih fun g hg => h g (by omega)]
    have hi := h n (by omega)
    have e : ∀ i < 16, v n i = w n i := hi
    simp only [gstep, pair, e _ (by decide : 2 * (2 * (2 * (2 * 0))) < 16), Nat.mul_zero, Nat.zero_add, Nat.mul_one,
      Nat.reduceMul, Nat.reduceAdd, e 0 (by decide), e 1 (by decide), e 2 (by decide), e 3 (by decide), e 4 (by decide),
      e 5 (by decide), e 6 (by decide), e 7 (by decide), e 8 (by decide), e 9 (by decide), e 10 (by decide),
      e 11 (by decide), e 12 (by decide), e 13 (by decide), e 14 (by decide), e 15 (by decide)]

/-- A vector of the state, as stored. -/
theorem pay4_apply (v : Tile) (a : Fin 8) (b : Fin 128) : k0_pay4 v (ix4 0 0 a b) = v (ix2 a b) := by
  unfold k0_pay4
  exact shapeCast_apply v _ (ix4 0 0 a b) (ix2 a b) (by
    refine (Shape.rowMajor_val_two _).trans (Eq.trans ?_ (Shape.rowMajor_val_four _).symm)
    show a.val * 128 + b.val = ((0 * 1 + 0) * 8 + a.val) * 128 + b.val
    omega)

/-- A vector of the state, as loaded. -/
theorem pay10_apply (v : Vec Ideal S1x1x8x128 .f32) (a : Fin 8) (b : Fin 128) : k0_pay10 v (ix2 a b) = v (ix4 0 0 a b) := by
  unfold k0_pay10
  exact shapeCast_apply v _ (ix2 a b) (ix4 0 0 a b) (by
    refine (Shape.rowMajor_val_four _).trans (Eq.trans ?_ (Shape.rowMajor_val_two _).symm)
    show ((0 * 1 + 0) * 8 + a.val) * 128 + b.val = a.val * 128 + b.val
    omega)

theorem blk_lt (k : Fin k0_t1_loop.trips) {h : ℕ} (hh : h < 2) : 2 * k.val + h < 32 := by
  have := trip_lt k
  omega

/-- The loaded state of half `h` is the state of block `2 k + h`. -/
theorem load_at (arg9 : Memref sig .tc .vmem S32x46x8x128 .f32) (f : BufTy.Contents (Elt Ideal) arg9.view.ty)
    (k : Fin k0_t1_loop.trips) (h : ℕ) (hh : h < 2) (a : Fin 8) (b : Fin 128) :
    (St.of (load arg9 f k h)).map (fun v => v (ix2 a b))
      = stAt (arg9.view.read (Elt Ideal) f) ⟨2 * k.val + h, blk_lt k hh⟩ a b := by
  have e : (fun m => load arg9 f k h m (ix2 a b))
      = fun m => if hm : m < 46 then arg9.view.read (Elt Ideal) f (ix4 ⟨2 * k.val + h, blk_lt k hh⟩ ⟨m, hm⟩ a b) else ⊥ := by
    funext m
    by_cases hm : m < 46
    · rw [load, dif_pos ⟨hh, hm⟩, dif_pos hm, pay10_apply, View.readAt_apply]
      refine congrArg (arg9.view.read (Elt Ideal) f) (funext fun x => Fin.ext ?_)
      fin_cases x
      · show k0_off2 k (BitVec.ofNat 32 h) 0 + 1 * 0 = 2 * k.val + h
        exact off2_val k ⟨h, hh⟩
      · show m + 1 * 0 = m
        omega
      · show 0 + 1 * a.val = a.val
        omega
      · show 0 + 1 * b.val = b.val
        omega
    · rw [load, dif_neg (fun hc => hm hc.2), dif_neg hm]
  exact congrArg St.of e

/-- The stores of half `h` put the state into block `2 k + h`. -/
theorem stores_hit (arg9 : Memref sig .tc .vmem S32x46x8x128 .f32) (f : BufTy.Contents (Elt Ideal) arg9.view.ty)
    (k : Fin k0_t1_loop.trips) (h : ℕ) (hh : h < 2) (s : St Tile) (t : Fin 32) (a : Fin 8) (b : Fin 128)
    (ht : t.val = 2 * k.val + h) :
    stAt (arg9.view.read (Elt Ideal) (arg9.view.writes (Elt Ideal) f (stores k h hh s))) t a b
      = s.map (fun v => v (ix2 a b)) := by
  have e : (fun m => if hm : m < 46 then
        arg9.view.read (Elt Ideal) (arg9.view.writes (Elt Ideal) f (stores k h hh s)) (ix4 t ⟨m, hm⟩ a b) else ⊥)
      = fun m => s.get m (ix2 a b) := by
    funext m
    by_cases hm : m < 46
    · rw [dif_pos hm, stores]
      rw [View.read_tilePieces arg9.view f S1x1x8x128.size (fun i : Fin 46 => place k h i.val) _ _ 46 le_rfl
        (ix4 t ⟨m, hm⟩ a b) ⟨m, hm⟩ hm (ix4 0 0 a b) (by
          intro x
          fin_cases x
          · show t.val = k0_off2 k (BitVec.ofNat 32 h) 0 + 0
            rw [ht]
            exact (off2_val k ⟨h, hh⟩).symm
          · show m = m + 0
            omega
          · show a.val = 0 + a.val
            omega
          · show b.val = 0 + b.val
            omega) 1 (by
          intro i' hi'
          have hne : i'.val ≠ m := fun hc => hi' (Fin.ext hc)
          show m < i'.val ∨ i'.val + 1 ≤ m
          omega)]
      exact pay4_apply _ a b
    · rw [dif_neg hm, St.get, List.getD_eq_getElem?_getD, List.getElem?_eq_none (by
        show 46 ≤ m
        omega)]
      rfl
  exact congrArg St.of e

/-- And leave the other blocks alone. -/
theorem stores_miss (arg9 : Memref sig .tc .vmem S32x46x8x128 .f32) (f : BufTy.Contents (Elt Ideal) arg9.view.ty)
    (k : Fin k0_t1_loop.trips) (h : ℕ) (hh : h < 2) (s : St Tile) (t : Fin 32) (a : Fin 8) (b : Fin 128)
    (ht : t.val ≠ 2 * k.val + h) :
    stAt (arg9.view.read (Elt Ideal) (arg9.view.writes (Elt Ideal) f (stores k h hh s))) t a b
      = stAt (arg9.view.read (Elt Ideal) f) t a b := by
  refine congrArg St.of (funext fun m => dite_congr rfl (fun hm => ?_) fun _ => rfl)
  rw [stores]
  exact View.read_tilePieces_miss arg9.view f S1x1x8x128.size (fun i : Fin 46 => place k h i.val) _ _ 46 le_rfl
    (ix4 t ⟨m, hm⟩ a b) 0 (by
      intro i' _
      have e := off2_val k ⟨h, hh⟩
      show t.val < k0_off2 k (BitVec.ofNat 32 h) 0 ∨ k0_off2 k (BitVec.ofNat 32 h) 0 + 1 ≤ t.val
      rw [show k0_off2 k (BitVec.ofNat 32 h) 0 = 2 * k.val + h from e]
      omega)

/-- The state of half `h` after a trip, at one place. -/
theorem after_at (arg4 : Memref sig .tc .vmem S768x4096 .bf16) (arg6 : Memref sig .tc .vmem S2048x768 .bf16)
    (arg7 arg8 : Memref sig .tc .vmem S2048x128 .f32) (arg9 : Memref sig .tc .vmem S32x46x8x128 .f32)
    (X4 : BufTy.Contents (Elt Ideal) arg4.view.ty) (X6 : BufTy.Contents (Elt Ideal) arg6.view.ty)
    (X7 : BufTy.Contents (Elt Ideal) arg7.view.ty) (X8 : BufTy.Contents (Elt Ideal) arg8.view.ty)
    (f : BufTy.Contents (Elt Ideal) arg9.view.ty) (k : Fin k0_t1_loop.trips) (h : ℕ) (hh : h < 2) (a : Fin 8) (b : Fin 128) :
    (after (prod arg4 arg6 X4 X6 k) (rows arg7.view X7) (rows arg8.view X8) (load arg9 f k) h).map (fun v => v (ix2 a b))
      = gsteps max min (stAt (arg9.view.read (Elt Ideal) f) ⟨2 * k.val + h, blk_lt k hh⟩ a b)
          (fun n i => es (arg6.view.read (Elt Ideal) X6) (arg4.view.read (Elt Ideal) X4) (arg7.view.read (Elt Ideal) X7)
            (arg8.view.read (Elt Ideal) X8) (8 * (16 * n + i) + a.val) (128 * (2 * k.val + h) + b.val)) 16 := by
  rw [after, gsteps_map (mx' := max) (mn' := min) (f := fun v : Tile => v (ix2 a b)) (fun _ _ => rfl) (fun _ _ => rfl),
    load_at _ _ _ _ hh]
  exact gsteps_congr _ _ _ _ _ _ fun g hg i hi => score_apply arg4 arg6 arg7 arg8 X4 X6 X7 X8 k h g i hh hg hi a b

/-- One trip, at one place. -/
theorem trip_at (arg4 : Memref sig .tc .vmem S768x4096 .bf16) (arg6 : Memref sig .tc .vmem S2048x768 .bf16)
    (arg7 arg8 : Memref sig .tc .vmem S2048x128 .f32) (arg9 : Memref sig .tc .vmem S32x46x8x128 .f32)
    (X4 : BufTy.Contents (Elt Ideal) arg4.view.ty) (X6 : BufTy.Contents (Elt Ideal) arg6.view.ty)
    (X7 : BufTy.Contents (Elt Ideal) arg7.view.ty) (X8 : BufTy.Contents (Elt Ideal) arg8.view.ty)
    (f : BufTy.Contents (Elt Ideal) arg9.view.ty) (k : Fin k0_t1_loop.trips) (t : Fin 32) (a : Fin 8) (b : Fin 128) :
    stAt (arg9.view.read (Elt Ideal) (arg9.view.writes (Elt Ideal) f
        (stores k 1 (by decide) (after (prod arg4 arg6 X4 X6 k) (rows arg7.view X7) (rows arg8.view X8) (load arg9 f k) 1)
        ++ stores k 0 (by decide) (after (prod arg4 arg6 X4 X6 k) (rows arg7.view X7) (rows arg8.view X8) (load arg9 f k) 0))))
        t a b
      = if t.val / 2 = k.val then
          gsteps max min (stAt (arg9.view.read (Elt Ideal) f) t a b)
            (fun n i => es (arg6.view.read (Elt Ideal) X6) (arg4.view.read (Elt Ideal) X4) (arg7.view.read (Elt Ideal) X7)
              (arg8.view.read (Elt Ideal) X8) (8 * (16 * n + i) + a.val) (128 * t.val + b.val)) 16
        else stAt (arg9.view.read (Elt Ideal) f) t a b := by
  rw [View.writes_append]
  by_cases h1 : t.val = 2 * k.val + 1
  · rw [stores_hit _ _ _ _ _ _ _ _ _ h1, after_at _ _ _ _ _ _ _ _ _ _ _ _ (by decide), if_pos (by omega)]
    have e : (⟨2 * k.val + 1, blk_lt k (by decide)⟩ : Fin 32) = t := Fin.ext h1.symm
    rw [e, h1]
  · rw [stores_miss _ _ _ _ _ _ _ _ _ h1]
    by_cases h0 : t.val = 2 * k.val + 0
    · rw [stores_hit _ _ _ _ _ _ _ _ _ h0, after_at _ _ _ _ _ _ _ _ _ _ _ _ (by decide), if_pos (by omega)]
      have e : (⟨2 * k.val + 0, blk_lt k (by decide)⟩ : Fin 32) = t := Fin.ext h0.symm
      rw [e, h0]
    · rw [stores_miss _ _ _ _ _ _ _ _ _ h0, if_neg (by omega)]

/-- The loop, at one place, after `j` trips. -/
theorem loop_at (𝒱 : Variants) (c : Dev nD) (bd : Option 𝒱.V) (i : grid0.Coords) (arg1 : Memref sig .tc .vmem S2048x768 .i8) (harg1 : arg1.IsWhole) (arg2 : Memref sig .tc .vmem S1x16x128 .f32) (harg2 : arg2.IsWhole) (arg3 : Memref sig .tc .vmem S1x16x128 .f32) (harg3 : arg3.IsWhole) (arg4 : Memref sig .tc .vmem S768x4096 .bf16) (harg4 : arg4.IsWhole) (arg5 : Memref sig .tc .vmem S16x4096 .f32) (harg5 : arg5.IsWhole) (arg6 : Memref sig .tc .vmem S2048x768 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S32x46x8x128 .f32) (harg9 : arg9.IsWhole) (X4 : BufTy.Contents (Elt Ideal) arg4.view.ty) (X6 : BufTy.Contents (Elt Ideal) arg6.view.ty) (X7 : BufTy.Contents (Elt Ideal) arg7.view.ty) (X8 : BufTy.Contents (Elt Ideal) arg8.view.ty)
    (G : BufTy.Contents (Elt Ideal) arg9.view.ty) (t : Fin 32) (a : Fin 8) (b : Fin 128) (j : ℕ) (hj : j ≤ k0_t1_loop.trips) :
    stAt (arg9.view.read (Elt Ideal) (arg9.view.writes (Elt Ideal) G
        (pb_k0_t1 (F := Ideal) 𝒱 c bd i arg1 harg1 arg2 harg2 arg3 harg3 arg4 harg4 arg5 harg5 arg6 harg6 arg7 harg7 arg8 harg8 arg9 harg9 X4 X6 X7 X8 G j))) t a b
      = if t.val / 2 < j then
          gsteps max min (stAt (arg9.view.read (Elt Ideal) G) t a b)
            (fun n i => es (arg6.view.read (Elt Ideal) X6) (arg4.view.read (Elt Ideal) X4) (arg7.view.read (Elt Ideal) X7)
              (arg8.view.read (Elt Ideal) X8) (8 * (16 * n + i) + a.val) (128 * t.val + b.val)) 16
        else stAt (arg9.view.read (Elt Ideal) G) t a b := by
  induction j with
  | zero => rw [if_neg (by omega)]; rfl
  | succ j ih =>
    rw [pb_k0_t1_succ 𝒱 c bd i arg1 harg1 arg2 harg2 arg3 harg3 arg4 harg4 arg5 harg5 arg6 harg6 arg7 harg7 arg8 harg8 arg9 harg9 X4 X6 X7 X8 G ⟨j, hj⟩,
      View.writes_append, trip_stores, trip_at, ih (by omega)]
    show (if t.val / 2 = j then _ else _) = _
    by_cases h1 : t.val / 2 = j
    · rw [if_pos h1, if_neg (by omega), if_pos (by omega)]
    · rw [if_neg h1]
      by_cases h2 : t.val / 2 < j
      · rw [if_pos h2, if_pos (by omega)]
      · rw [if_neg h2, if_neg (by omega)]

end Cert.TopK
-- ==== Proof.Head.lean ====
/-
  What the kernel's body puts into its buffers before the loop over queries: the codes, the column of doubled scales, the
  column of squared norms, each entry in terms of the blocks read; and the body's stores of state and of result as the
  generated run found them, in terms of the loops.
-/
module

public import proofs.«01_k».proof.Proof.Loop
public import proofs.«01_k».proof.Proof.Gen.KernelIdeal.Frame

@[expose] public section

noncomputable section

namespace Cert.TopK

open Idealize.ShloMosaic Idealize.ShloMosaic.TcCoe Idealize.ShloMosaic.ValueIdx Cert.KernelIdeal Cert.KernelIdeal.Gen

theorem scale_inb (g : Fin 16) : ∀ a, (![0, g.val, 0] : Fin 3 → ℕ) a + (![1, 1, 128] : Fin 3 → ℕ) a ≤ S1x16x128.size a := by
  intro a
  have := g.isLt
  fin_cases a
  · show 0 + 1 ≤ 1
    omega
  · show g.val + 1 ≤ 16
    omega
  · show 0 + 128 ≤ 128
    omega

theorem col_inb (g : Fin 16) : ∀ a, (![128 * g.val, 0] : Fin 2 → ℕ) a + S128x128.size a ≤ S2048x128.size a := by
  intro a
  have := g.isLt
  fin_cases a
  · show 128 * g.val + 128 ≤ 2048
    omega
  · show 0 + 128 ≤ 128
    omega

/-- Row `g` of a block of sixteen rows of 128. -/
def row (arg : Memref sig .tc .vmem S1x16x128 .f32) (X : BufTy.Contents (Elt Ideal) arg.view.ty) (g : Fin 16) :
    Vec Ideal S1x1x128 .f32 :=
  arg.view.readAt (Elt Ideal) (Rect.unit (s := S1x16x128) ![0, g.val, 0] ![1, 1, 128] (scale_inb g)).toLoadRect X

/-- The sixteen stores of doubled scales, last first. -/
def scaleStores (arg : Memref sig .tc .vmem S1x16x128 .f32) (X : BufTy.Contents (Elt Ideal) arg.view.ty) :
    List (View.Piece (Elt Ideal) S2048x128 .f32) :=
  View.tilePieces (NT := 16) (e := .f32) (Val := Elt Ideal) S128x128.size (fun g => ![128 * g.val, 0]) col_inb
    (fun g => k0_pay2 (row arg X g)) 16 le_rfl

/-- The sixteen stores of squared norms, last first. -/
def normStores (arg : Memref sig .tc .vmem S1x16x128 .f32) (X : BufTy.Contents (Elt Ideal) arg.view.ty) :
    List (View.Piece (Elt Ideal) S2048x128 .f32) :=
  View.tilePieces (NT := 16) (e := .f32) (Val := Elt Ideal) S128x128.size (fun g => ![128 * g.val, 0]) col_inb
    (fun g => k0_pay3 (row arg X g)) 16 le_rfl

/-- The store of the codes. -/
def codeStores (arg : Memref sig .tc .vmem S2048x768 .i8) (X : BufTy.Contents (Elt Ideal) arg.view.ty) :
    List (View.Piece (Elt Ideal) S2048x768 .bf16) :=
  [⟨Rect.unit (s := S2048x768) ![0, 0] S2048x768.size inb_S2048x768_S2048x768_0_0,
    k0_pay5960 (arg.view.readAt (Elt Ideal) (Rect.unit (s := S2048x768) ![0, 0] S2048x768.size inb_S2048x768_S2048x768_0_0).toLoadRect X)⟩]

/-- The store that starts the state. -/
def initStores : List (View.Piece (Elt Ideal) S32x46x8x128 .f32) :=
  [⟨Rect.unit (s := S32x46x8x128) ![0, 0, 0, 0] S32x46x8x128.size inb_S32x46x8x128_S32x46x8x128_0_0_0_0, k0_pay5959 (F := Ideal)⟩]

/-! The stores of the generated run are these, in each of its three cases. -/

set_option maxRecDepth 65536 in
theorem codes_A (c : Dev nD) (arg : Memref sig .tc .vmem S2048x768 .i8) (harg : arg.IsWhole) (x : Vec Ideal S2048x768 .i8) :
    kernelRun0_A.sl.HS0_1 (F := Ideal) c arg harg x = codeStores arg (harg.unread x) := by
  sl_kernel_rfl

set_option maxRecDepth 65536 in
theorem scales_A (c : Dev nD) (arg : Memref sig .tc .vmem S1x16x128 .f32) (harg : arg.IsWhole) (x : Vec Ideal S1x16x128 .f32) :
    kernelRun0_A.sl.HS1_16 (F := Ideal) c arg harg x = scaleStores arg (harg.unread x) := by
  sl_kernel_rfl

set_option maxRecDepth 65536 in
theorem norms_A (c : Dev nD) (arg : Memref sig .tc .vmem S1x16x128 .f32) (harg : arg.IsWhole) (x : Vec Ideal S1x16x128 .f32) :
    kernelRun0_A.sl.HS2_16 (F := Ideal) c arg harg x = normStores arg (harg.unread x) := by
  sl_kernel_rfl

set_option maxRecDepth 65536 in
theorem codes_B (c : Dev nD) (arg : Memref sig .tc .vmem S2048x768 .i8) (harg : arg.IsWhole) (x : Vec Ideal S2048x768 .i8) :
    kernelRun0_B.sl.HS0_1 (F := Ideal) c arg harg x = codeStores arg (harg.unread x) := by
  sl_kernel_rfl

set_option maxRecDepth 65536 in
theorem scales_B (c : Dev nD) (arg : Memref sig .tc .vmem S1x16x128 .f32) (harg : arg.IsWhole) (x : Vec Ideal S1x16x128 .f32) :
    kernelRun0_B.sl.HS1_16 (F := Ideal) c arg harg x = scaleStores arg (harg.unread x) := by
  sl_kernel_rfl

set_option maxRecDepth 65536 in
theorem norms_B (c : Dev nD) (arg : Memref sig .tc .vmem S1x16x128 .f32) (harg : arg.IsWhole) (x : Vec Ideal S1x16x128 .f32) :
    kernelRun0_B.sl.HS2_16 (F := Ideal) c arg harg x = normStores arg (harg.unread x) := by
  sl_kernel_rfl

set_option maxRecDepth 65536 in
theorem codes_C (c : Dev nD) (arg : Memref sig .tc .vmem S2048x768 .i8) (harg : arg.IsWhole) (x : Vec Ideal S2048x768 .i8) :
    kernelRun0_C.sl.HS0_1 (F := Ideal) c arg harg x = codeStores arg (harg.unread x) := by
  sl_kernel_rfl

set_option maxRecDepth 65536 in
theorem scales_C (c : Dev nD) (arg : Memref sig .tc .vmem S1x16x128 .f32) (harg : arg.IsWhole) (x : Vec Ideal S1x16x128 .f32) :
    kernelRun0_C.sl.HS1_16 (F := Ideal) c arg harg x = scaleStores arg (harg.unread x) := by
  sl_kernel_rfl

set_option maxRecDepth 65536 in
theorem norms_C (c : Dev nD) (arg : Memref sig .tc .vmem S1x16x128 .f32) (harg : arg.IsWhole) (x : Vec Ideal S1x16x128 .f32) :
    kernelRun0_C.sl.HS2_16 (F := Ideal) c arg harg x = normStores arg (harg.unread x) := by
  sl_kernel_rfl

section
variable (c : Dev nD) (i : grid0.Coords) (arg1 : Memref sig .tc .vmem S2048x768 .i8) (harg1 : arg1.IsWhole) (arg2 : Memref sig .tc .vmem S1x16x128 .f32) (harg2 : arg2.IsWhole) (arg3 : Memref sig .tc .vmem S1x16x128 .f32) (harg3 : arg3.IsWhole) (arg4 : Memref sig .tc .vmem S768x4096 .bf16) (harg4 : arg4.IsWhole) (arg5 : Memref sig .tc .vmem S16x4096 .f32) (harg5 : arg5.IsWhole) (arg6 : Memref sig .tc .vmem S2048x768 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S32x46x8x128 .f32) (harg9 : arg9.IsWhole)
  (x0 : Vec Ideal S2048x768 .i8) (x1 x2 : Vec Ideal S1x16x128 .f32) (x3 : Vec Ideal S768x4096 .bf16) (xs3 : Vec Ideal S32x46x8x128 .f32)

/-- The loop's stores from a state array `G`. -/
def loopStores (G : BufTy.Contents (Elt Ideal) arg9.view.ty) : List (View.Piece (Elt Ideal) S32x46x8x128 .f32) :=
  pb_k0_t1 (F := Ideal) Variants.none c none i arg1 harg1 arg2 harg2 arg3 harg3 arg4 harg4 arg5 harg5 arg6 harg6 arg7 harg7 arg8 harg8 arg9 harg9
    (harg4.unread x3)
    (arg6.view.writes (Elt Ideal) arg6.view.junk (codeStores arg1 (harg1.unread x0)))
    (arg7.view.writes (Elt Ideal) arg7.view.junk (scaleStores arg2 (harg2.unread x1)))
    (arg8.view.writes (Elt Ideal) arg8.view.junk (normStores arg3 (harg3.unread x2)))
    G k0_t1_loop.trips

/-- The state's stores at a middle point. -/
theorem run_B (hc0 : ¬cond0_0 i) (hc1 : ¬cond0_1 i) :
    (kernelRun0_B c i arg1 harg1 arg2 harg2 arg3 harg3 arg4 harg4 arg5 harg5 arg6 harg6 arg7 harg7 arg8 harg8 arg9 harg9 hc0 hc1 x0 x1 x2 x3 xs3).2.1
      = loopStores c i arg1 harg1 arg2 harg2 arg3 harg3 arg4 harg4 arg5 harg5 arg6 harg6 arg7 harg7 arg8 harg8 arg9 harg9 x0 x1 x2 x3 (harg9.unread xs3) := by
  rw [loopStores, ← codes_B c, ← scales_B c, ← norms_B c]
  unfold kernelRun0_B
  dsimp only

/-- The state's stores at the first point. -/
theorem run_A (hc0 : cond0_0 i) (hc1 : ¬cond0_1 i) :
    (kernelRun0_A c i arg1 harg1 arg2 harg2 arg3 harg3 arg4 harg4 arg5 harg5 arg6 harg6 arg7 harg7 arg8 harg8 arg9 harg9 hc0 hc1 x0 x1 x2 x3).2.1
      = loopStores c i arg1 harg1 arg2 harg2 arg3 harg3 arg4 harg4 arg5 harg5 arg6 harg6 arg7 harg7 arg8 harg8 arg9 harg9 x0 x1 x2 x3
          (arg9.view.writes (Elt Ideal) arg9.view.junk initStores) ++ initStores := by
  rw [loopStores, ← codes_A c, ← scales_A c, ← norms_A c]
  unfold kernelRun0_A
  dsimp only
  rfl

/-- The result's stores at the last point. -/
theorem run_C (hc0 : ¬cond0_0 i) (hc1 : cond0_1 i) :
    (kernelRun0_C c i arg1 harg1 arg2 harg2 arg3 harg3 arg4 harg4 arg5 harg5 arg6 harg6 arg7 harg7 arg8 harg8 arg9 harg9 hc0 hc1 x0 x1 x2 x3 xs3).1
      = pb_k0_t2 (F := Ideal) Variants.none c none i arg1 harg1 arg2 harg2 arg3 harg3 arg4 harg4 arg5 harg5 arg6 harg6 arg7 harg7 arg8 harg8 arg9 harg9
          (by simpa only [cond0_1] using hc1)
          (arg9.view.writes (Elt Ideal) (harg9.unread xs3)
            (loopStores c i arg1 harg1 arg2 harg2 arg3 harg3 arg4 harg4 arg5 harg5 arg6 harg6 arg7 harg7 arg8 harg8 arg9 harg9 x0 x1 x2 x3 (harg9.unread xs3)))
          k0_t2_loop.trips := by
  rw [loopStores, ← codes_C c, ← scales_C c, ← norms_C c]
  unfold kernelRun0_C
  dsimp only

end

end Cert.TopK
-- ==== Proof.Point.lean ====
/-
  One grid point, place by place: the state after it is the state before it with the scores of the point's 2048 rows pushed
  in, the scores being those of the blocks the point reads.
-/
module

public import proofs.«01_k».proof.Proof.Head

@[expose] public section

noncomputable section

namespace Cert.TopK

open Idealize.ShloMosaic Idealize.ShloMosaic.TcCoe Idealize.ShloMosaic.ValueIdx Cert.KernelIdeal Cert.KernelIdeal.Gen

/-- The value of the constant two. -/
def two : EReal := Ideal.ofBits .f32 0x40000000#32

/-- The codes in their buffer. -/
theorem codes_read (v : View sig .tc .vmem S2048x768 .bf16) (G : BufTy.Contents (Elt Ideal) v.ty)
    (arg : Memref sig .tc .vmem S2048x768 .i8) (harg : arg.IsWhole) (x : Vec Ideal S2048x768 .i8) (j : S2048x768.Idx) :
    v.read (Elt Ideal) (v.writes (Elt Ideal) G (codeStores arg (harg.unread x))) j = (((x j).toInt : ℝ) : EReal) := by
  rw [codeStores, View.read_writes_cons_unit_of_mem v G inb_S2048x768_S2048x768_0_0 _ [] j j rfl (by
    intro a
    fin_cases a
    · show (j 0).val = 0 + (j 0).val
      omega
    · show (j 1).val = 0 + (j 1).val
      omega)]
  have e : arg.view.readAt (Elt Ideal) (Rect.unit (s := S2048x768) ![0, 0] S2048x768.size inb_S2048x768_S2048x768_0_0).toLoadRect (harg.unread x) = x := by
    funext y
    rw [View.readAt_apply]
    refine (congrArg (arg.view.read (Elt Ideal) (harg.unread x)) (a₂ := y) (funext fun a => Fin.ext ?_)).trans
      (congrFun (harg.read_unread x) y)
    fin_cases a
    · show 0 + 1 * (y 0).val = (y 0).val
      omega
    · show 0 + 1 * (y 1).val = (y 1).val
      omega
  rw [e]
  unfold k0_pay5960
  rw [shapeCast_self]
  rfl

/-- A row of a block of scales or of squared norms. -/
theorem row_apply (arg : Memref sig .tc .vmem S1x16x128 .f32) (harg : arg.IsWhole) (x : Vec Ideal S1x16x128 .f32)
    (g : Fin 16) (b : Fin 128) : row arg (harg.unread x) g (ix3 0 0 b) = x (ix3 0 g b) := by
  rw [row, View.readAt_apply]
  refine (congrArg (arg.view.read (Elt Ideal) (harg.unread x)) (a₂ := ix3 0 g b) (funext fun a => Fin.ext ?_)).trans
    (congrFun (harg.read_unread x) _)
  fin_cases a
  · rfl
  · show g.val + 1 * 0 = g.val
    omega
  · show 0 + 1 * b.val = b.val
    omega

theorem unit_row_apply (v : Vec Ideal S1x1x128 .f32) (b : Fin 128) :
    shapeCast S1x128 v shapeCasts_S1x1x128_S1x128 (ix2 0 b) = v (ix3 0 0 b) :=
  shapeCast_apply v _ (ix2 0 b) (ix3 0 0 b) (by
    refine (Shape.rowMajor_val_three _).trans (Eq.trans ?_ (Shape.rowMajor_val_two _).symm)
    show (0 * 1 + 0) * 128 + b.val = 0 * 128 + b.val
    omega)

/-- A row turned into a column and repeated along the lanes. -/
theorem column_apply (w : FVec Ideal S1x128 .f32) (a b : Fin 128) :
    transpose S128x128 [1, 0] (broadcastTo S128x128 w broadcasts_S1x128_S128x128) transposes_S128x128_p1_0_S128x128 (ix2 a b)
      = w (ix2 0 a) := by
  rw [transpose_apply [1, 0] _ transposes_S128x128_p1_0_S128x128 (ix2 a b) (ix2 b a) (by
    intro x
    fin_cases x <;> rfl)]
  exact broadcastTo_apply _ _ _ _ (by
    intro x
    fin_cases x <;> rfl)

/-- A column of doubled scales. -/
theorem pay2_apply (v : Vec Ideal S1x1x128 .f32) (a b : Fin 128) : k0_pay2 v (ix2 a b) = v (ix3 0 0 a) * two := by
  unfold k0_pay2
  rw [shapeCast_self]
  show transpose _ _ (broadcastTo _ (shapeCast _ _ _) _) _ _ = _
  rw [column_apply, shapeCast_self]
  show shapeCast S1x128 v _ (ix2 0 a) * two = _
  rw [unit_row_apply]

/-- A column of squared norms. -/
theorem pay3_apply (v : Vec Ideal S1x1x128 .f32) (a b : Fin 128) : k0_pay3 v (ix2 a b) = v (ix3 0 0 a) := by
  unfold k0_pay3
  rw [shapeCast_self]
  show transpose _ _ (broadcastTo _ (shapeCast _ _ _) _) _ _ = _
  rw [column_apply, shapeCast_self, unit_row_apply]

/-- Reading a column buffer after its sixteen stores. -/
theorem col_read (v : View sig .tc .vmem S2048x128 .f32) (G : BufTy.Contents (Elt Ideal) v.ty)
    (P : Fin 16 → S128x128.Idx → EReal) (r : Fin 2048) (b : Fin 128) :
    v.read (Elt Ideal) (v.writes (Elt Ideal) G (View.tilePieces (NT := 16) (e := .f32) (Val := Elt Ideal) S128x128.size
      (fun g => ![128 * g.val, 0]) col_inb P 16 le_rfl)) (ix2 r b)
      = P ⟨r.val / 128, by omega⟩ (ix2 ⟨r.val % 128, Nat.mod_lt _ (by decide)⟩ b) := by
  have hr := r.isLt
  exact View.read_tilePieces v G S128x128.size (fun g : Fin 16 => ![128 * g.val, 0]) col_inb P 16 le_rfl (ix2 r b)
    ⟨r.val / 128, by omega⟩ (by
      show r.val / 128 < 16
      omega) (ix2 ⟨r.val % 128, Nat.mod_lt _ (by decide)⟩ b) (by
      intro x
      fin_cases x
      · show r.val = 128 * (r.val / 128) + r.val % 128
        omega
      · show b.val = 0 + b.val
        omega) 0 (by
      intro i' hi'
      have hne : i'.val ≠ r.val / 128 := fun hc => hi' (Fin.ext hc)
      show r.val < 128 * i'.val ∨ 128 * i'.val + 128 ≤ r.val
      omega)

/-- The score of row `r` of a point's block against query `q`. -/
def ps (x0 : Vec Ideal S2048x768 .i8) (x1 x2 : Vec Ideal S1x16x128 .f32) (x3 : Vec Ideal S768x4096 .bf16) (r q : ℕ) : EReal :=
  if h : r < 2048 ∧ q < 4096 then
    (∑ k : Fin 768, (((x0 (ix2 ⟨r, h.1⟩ k)).toInt : ℝ) : EReal) * x3 (ix2 k ⟨q, h.2⟩))
        * (x1 (ix3 0 ⟨r / 128, by omega⟩ ⟨r % 128, Nat.mod_lt _ (by decide)⟩) * two)
      - x2 (ix3 0 ⟨r / 128, by omega⟩ ⟨r % 128, Nat.mod_lt _ (by decide)⟩)
  else ⊥

section
variable (c : Dev nD) (i : grid0.Coords) (arg1 : Memref sig .tc .vmem S2048x768 .i8) (harg1 : arg1.IsWhole) (arg2 : Memref sig .tc .vmem S1x16x128 .f32) (harg2 : arg2.IsWhole) (arg3 : Memref sig .tc .vmem S1x16x128 .f32) (harg3 : arg3.IsWhole) (arg4 : Memref sig .tc .vmem S768x4096 .bf16) (harg4 : arg4.IsWhole) (arg5 : Memref sig .tc .vmem S16x4096 .f32) (harg5 : arg5.IsWhole) (arg6 : Memref sig .tc .vmem S2048x768 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S32x46x8x128 .f32) (harg9 : arg9.IsWhole)
  (x0 : Vec Ideal S2048x768 .i8) (x1 x2 : Vec Ideal S1x16x128 .f32) (x3 : Vec Ideal S768x4096 .bf16) (xs3 : Vec Ideal S32x46x8x128 .f32)

/-- The buffers' scores are the blocks'. -/
theorem es_eq (G6 : BufTy.Contents (Elt Ideal) arg6.view.ty) (G7 : BufTy.Contents (Elt Ideal) arg7.view.ty)
    (G8 : BufTy.Contents (Elt Ideal) arg8.view.ty) (r q : ℕ) :
    es (arg6.view.read (Elt Ideal) (arg6.view.writes (Elt Ideal) G6 (codeStores arg1 (harg1.unread x0))))
        (arg4.view.read (Elt Ideal) (harg4.unread x3))
        (arg7.view.read (Elt Ideal) (arg7.view.writes (Elt Ideal) G7 (scaleStores arg2 (harg2.unread x1))))
        (arg8.view.read (Elt Ideal) (arg8.view.writes (Elt Ideal) G8 (normStores arg3 (harg3.unread x2)))) r q
      = ps x0 x1 x2 x3 r q := by
  unfold es ps
  by_cases h : r < 2048 ∧ q < 4096
  · rw [dif_pos h, dif_pos h, scaleStores, normStores, col_read, col_read, pay2_apply, pay3_apply, row_apply, row_apply,
      harg4.read_unread]
    refine congrArg (fun z => z * _ - _) (Finset.sum_congr rfl fun k _ => ?_)
    rw [codes_read]
  · rw [dif_neg h, dif_neg h]

/-- The loop over queries, from the blocks, at one place. -/
theorem body_at (G : BufTy.Contents (Elt Ideal) arg9.view.ty) (t : Fin 32) (a : Fin 8) (b : Fin 128) :
    stAt (arg9.view.read (Elt Ideal) (arg9.view.writes (Elt Ideal) G
        (loopStores c i arg1 harg1 arg2 harg2 arg3 harg3 arg4 harg4 arg5 harg5 arg6 harg6 arg7 harg7 arg8 harg8 arg9 harg9 x0 x1 x2 x3 G))) t a b
      = gsteps max min (stAt (arg9.view.read (Elt Ideal) G) t a b)
          (fun n j => ps x0 x1 x2 x3 (8 * (16 * n + j) + a.val) (128 * t.val + b.val)) 16 := by
  rw [loopStores, loop_at _ _ _ _ _ _ _ _ _ _ _ _ _ _ _ _ _ _ _ _ _ _ _ _ _ _ _ _ _ _ _ le_rfl,
    if_pos (by have := t.isLt; have := trips_eq; omega)]
  exact gsteps_congr _ _ _ _ _ _ fun g _ j _ => es_eq arg1 harg1 arg2 harg2 arg3 harg3 arg4 harg4 arg6 arg7 arg8 x0 x1 x2 x3 _ _ _ _ _

/-- A middle point, at one place. -/
theorem point_B (hc0 : ¬cond0_0 i) (hc1 : ¬cond0_1 i) (t : Fin 32) (a : Fin 8) (b : Fin 128) :
    stAt (sout0_B_3 c i arg1 harg1 arg2 harg2 arg3 harg3 arg4 harg4 arg5 harg5 arg6 harg6 arg7 harg7 arg8 harg8 arg9 harg9 hc0 hc1 x0 x1 x2 x3 xs3) t a b
      = gsteps max min (stAt xs3 t a b)
          (fun n j => ps x0 x1 x2 x3 (8 * (16 * n + j) + a.val) (128 * t.val + b.val)) 16 := by
  rw [sout0_B_3, run_B, body_at, harg9.read_unread]

/-- The value of the constant that starts the state. -/
theorem neg_inf : Ideal.ofBits .f32 0xFF800000#32 = ⊥ := by simp [Ideal.ofBits, Ideal.ieee]

/-- The state as started, at one place. -/
theorem init_at (v : View sig .tc .vmem S32x46x8x128 .f32) (G : BufTy.Contents (Elt Ideal) v.ty) (t : Fin 32) (a : Fin 8) (b : Fin 128) :
    stAt (v.read (Elt Ideal) (v.writes (Elt Ideal) G initStores)) t a b = St.of fun _ => ⊥ := by
  refine congrArg St.of (funext fun m => ?_)
  by_cases hm : m < 46
  · rw [dif_pos hm, initStores, View.read_writes_cons_unit_of_mem v G inb_S32x46x8x128_S32x46x8x128_0_0_0_0 _ [] _
      (ix4 t ⟨m, hm⟩ a b) rfl (by
        intro x
        fin_cases x
        · show t.val = 0 + t.val
          omega
        · show m = 0 + m
          omega
        · show a.val = 0 + a.val
          omega
        · show b.val = 0 + b.val
          omega)]
    unfold k0_pay5959
    rw [shapeCast_self]
    exact neg_inf
  · rw [dif_neg hm]

/-- The first point, at one place. -/
theorem point_A (hc0 : cond0_0 i) (hc1 : ¬cond0_1 i) (t : Fin 32) (a : Fin 8) (b : Fin 128) :
    stAt (sout0_A_3 c i arg1 harg1 arg2 harg2 arg3 harg3 arg4 harg4 arg5 harg5 arg6 harg6 arg7 harg7 arg8 harg8 scM0_3 (Memref.isWhole_whole _) hc0 hc1 x0 x1 x2 x3) t a b
      = gsteps max min (St.of fun _ => ⊥)
          (fun n j => ps x0 x1 x2 x3 (8 * (16 * n + j) + a.val) (128 * t.val + b.val)) 16 := by
  rw [sout0_A_3, run_A, View.writes_append, body_at, init_at]

end

end Cert.TopK
-- ==== Proof.Array.lean ====
/-
  The kernel's whole run: the array its result window ends with is what the last grid point left in the window's block
  (the block is the array, written back once), and the program's result is that array's first ten rows, transposed and
  split into batches.
-/
module

public import proofs.«01_k».proof.Proof.Gen.KernelIdeal.Frame
public import Idealize.ShloMosaic.Lib.Pipeline.Value
public import Idealize.ShloMosaic.Lib.StableHlo.Run
public import Idealize.ShloMosaic.Lib.Pipeline.FrameTail

@[expose] public section

noncomputable section

namespace Cert.TopK

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

theorem last_lt : 239 < cfg0.N := lt_of_lt_of_eq (by decide) N_0.symm

/-- What the last point leaves in the result window's block. -/
def lastOut (c : Dev nD) : Buf (Elt F) ((c : Thread nD τ).loc main_v4) := (outsAt0 m c 239 last_lt).1

/-- The result window's block starts at the origin at every point. -/
theorem index4 : ∀ t : Fin cfg0.N, win0_4.index t (0 : Fin 2) = 0 ∧ win0_4.index t (1 : Fin 2) = 0 :=
  (by decide +kernel : ∀ t : Fin grid0.N, _)

/-- A point that writes the window back is the last one, and writes its block. -/
theorem flushed4_eq (c : Dev nD) (t : Fin cfg0.N) (hf : (cfg0.win 4).flush t = true) :
    (dats m 0 c).flushed 4 t = ((cfg0.win 4).blk t).view.read (Elt F) (lastOut m c) := by
  show (cfg0.win 4).cut (grid0.coords t) ((dats m 0 c).after 4 t) = _
  have hN := lt_of_lt_of_eq t.isLt (show cfg0.N = 240 from N_0)
  have hm : t.val = 239 := by
    have := (flush0_4 t).mp hf
    omega
  obtain ⟨e0, e1⟩ := index4 t
  rw [after0_4]
  have ho : (outsAt0 m c t.val t.isLt).1 = (outsAt0 m c 239 last_lt).1 := by
    obtain ⟨n, hn⟩ := t
    subst hm
    rfl
  rw [ho]
  funext y
  show (outsAt0 m c 239 last_lt).1 ((cfg0.win 4).xinj (grid0.coords t) y) = (outsAt0 m c 239 last_lt).1 (((cfg0.win 4).blk t).view.emb y)
  refine congrArg (outsAt0 m c 239 last_lt).1 (funext fun a => Fin.ext ?_)
  match a with
  | ⟨0, _⟩ => show (y 0).val = win0_4.index t (0 : Fin 2) * 16 + 1 * (y 0).val; omega
  | ⟨1, _⟩ => show (y 1).val = win0_4.index t (1 : Fin 2) * 4096 + 1 * (y 1).val; omega

/-- The last point's block is the whole array. -/
theorem mem_last (i : S16x4096.Idx) : ∃ t : Fin cfg0.N, (cfg0.win 4).flush t = true ∧ i ∈ ((cfg0.win 4).blk t).view.set := by
  refine ⟨⟨239, last_lt⟩, (flush0_4 _).mpr rfl, ?_⟩
  show i ∈ ((View.whole main_v4).slice (win0_4.rect ⟨239, last_lt⟩)).set
  rw [View.set_slice_whole, Rect.mem_set_unit]
  obtain ⟨e0, e1⟩ := index4 ⟨239, last_lt⟩
  intro a
  match a with
  | ⟨0, _⟩ =>
    have h : (i 0).val < 16 := (i 0).isLt
    show win0_4.index ⟨239, last_lt⟩ (0 : Fin 2) * 16 ≤ (i 0).val ∧ (i 0).val < win0_4.index ⟨239, last_lt⟩ (0 : Fin 2) * 16 + 16
    omega
  | ⟨1, _⟩ =>
    have h : (i 1).val < 4096 := (i 1).isLt
    show win0_4.index ⟨239, last_lt⟩ (1 : Fin 2) * 4096 ≤ (i 1).val ∧ (i 1).val < win0_4.index ⟨239, last_lt⟩ (1 : Fin 2) * 4096 + 4096
    omega

theorem final4 (c : Dev nD) : (dats m 0 c).arrAt 4 cfg0.N = lastOut m c :=
  (dats m 0 c).arrAt_eq_of_cover 4 _ (fun t hf => flushed4_eq m c t hf) mem_last

/-- The program's result: the array's first ten rows, transposed and split into batches. -/
def result (c : Dev nD) : Buf (Elt F) ((c : Thread nD τ).loc main_v7) :=
  shapeCast S2x2048x10 (transpose S4096x10 [1, 0] (extractStridedSlice S10x4096 ![0, 0] (lastOut m c) slices_S16x4096_S10x4096_0_0)
    transposes_S10x4096_S4096x10_1_0) shapeCasts_S4096x10_S2x2048x10

theorem arrRef_injective : Function.Injective (Pipeline.arrRef spec0) := by decide

theorem tail_eq (c : Dev nD) : Pipeline.afterTail₀ cfgs (dats m) 0 (V0 m) [hostOps1] c main_v7 = result m c := by
  unfold Pipeline.afterTail₀
  have e : Pipeline.withArrays (cfgs 0).spec c (V0 m c) (fun w => (dats m 0 c).arrAt w (cfgs 0).N) (Proc.devRef .tc main_v4)
      = lastOut m c :=
    (Pipeline.withArrays_arr spec0 arrRef_injective c (V0 m c) (fun w => (dats m 0 c).arrAt w cfg0.N) 4).trans (final4 m c)
  generalize Pipeline.withArrays (cfgs 0).spec c (V0 m c) (fun w => (dats m 0 c).arrAt w (cfgs 0).N) = W at e
  unfold result
  rw [← e]
  after_results <;> rfl

/-- Every execution ends with the result at its array's rows, the arguments unchanged. -/
theorem run_result : θ_run defs (onTc (τ := τ) (main (F := F))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      ((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.TopK
-- ==== Proof.Blocks.lean ====
/-
  The scores that a grid point computes from its blocks are the scores of the whole problem: point `t` meets the 2048
  database rows from row `2048 t` on.
-/
module

public import proofs.«01_k».proof.Proof.Point
public import proofs.«01_k».proof.Proof.Array

@[expose] public section

noncomputable section

namespace Cert.TopK

open Idealize.ShloMosaic Idealize.ShloMosaic.TcCoe Idealize.ShloMosaic.ValueIdx Cert.KernelIdeal Cert.KernelIdeal.Gen Finset

/-- The score of database row `n` against query `q`. -/
def rowScore (x : Vec Ideal S2x2048x768 .bf16) (codes : Vec Ideal S491520x768 .i8) (sc sq : Vec Ideal S491520 .f32)
    (q n : ℕ) : EReal :=
  if h : q < 4096 ∧ n < 491520 then
    (∑ k : Fin 768, (((codes (ix2 ⟨n, h.2⟩ k)).toInt : ℝ) : EReal) * x (ix3 ⟨q / 2048, by omega⟩ ⟨q % 2048, by omega⟩ k))
      * (sc (ix1 ⟨n, h.2⟩) * two) - sq (ix1 ⟨n, h.2⟩)
  else ⊥

variable (m : (ℓ : Loc nD τ sig) → Buf (Elt Ideal) ℓ)

/-- The queries, transposed, as the region finds them. -/
theorem V_main_v1 (c : Dev nD) : V m c main_v1
    = transpose S768x4096 [1, 0] (shapeCast S4096x768 (m ((c : Thread nD τ).loc main_arg0)) shapeCasts_S2x2048x768_S4096x768)
        transposes_S4096x768_S768x4096_1_0 := by
  show StableHlo.after hostOps0 (fun b => m (c, b)) (Proc.devRef .tc main_v1) = _
  after_results <;> rfl

theorem V_main_v2 (c : Dev nD) : V m c main_v2
    = shapeCast S240x16x128 (m ((c : Thread nD τ).loc main_arg2)) shapeCasts_S491520_S240x16x128 := by
  show StableHlo.after hostOps0 (fun b => m (c, b)) (Proc.devRef .tc main_v2) = _
  after_results <;> rfl

theorem V_main_v3 (c : Dev nD) : V m c main_v3
    = shapeCast S240x16x128 (m ((c : Thread nD τ).loc main_arg3)) shapeCasts_S491520_S240x16x128 := by
  show StableHlo.after hostOps0 (fun b => m (c, b)) (Proc.devRef .tc main_v3) = _
  after_results <;> rfl

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 3) = t.val ∧ win0_1.index t (1 : Fin 3) = 0 ∧ win0_1.index t (2 : Fin 3) = 0 :=
  (by decide +kernel : ∀ t : Fin grid0.N, _)

theorem index2 : ∀ t : Fin cfg0.N, win0_2.index t (0 : Fin 3) = t.val ∧ win0_2.index t (1 : Fin 3) = 0 ∧ win0_2.index t (2 : Fin 3) = 0 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem point_lt (t : Fin cfg0.N) : t.val < 240 := lt_of_lt_of_eq t.isLt (show cfg0.N = 240 from N_0)

/-- The codes' block. -/
theorem codes_at (c : Dev nD) (t : Fin cfg0.N) (r : Fin 2048) (k : Fin 768) (n : Fin 491520) (hn : n.val = 2048 * t.val + r.val) :
    (iblk m c 0 t : Vec Ideal S2048x768 .i8) (ix2 r k) = m ((c : Thread nD τ).loc main_arg1) (ix2 n k) := by
  rw [← V_main_arg1 m c]
  show V m c main_arg1 (((cfg0.win 0).blk t).view.emb (ix2 r k)) = V m c main_arg1 (ix2 n k)
  obtain ⟨e0, e1⟩ := index0 t
  refine congrArg (V m c main_arg1) (funext fun a => Fin.ext ?_)
  match a with
  | ⟨0, _⟩ => show win0_0.index t (0 : Fin 2) * 2048 + 1 * r.val = n.val; omega
  | ⟨1, _⟩ => show win0_0.index t (1 : Fin 2) * 768 + 1 * k.val = k.val; omega

/-- A vector of row values, cut into blocks of 16 by 128. -/
theorem rowVec_at (v : Vec Ideal S491520 .f32) (t : Fin 240) (r : ℕ) (hr : r < 2048) (n : Fin 491520) (hn : n.val = 2048 * t.val + r) :
    shapeCast S240x16x128 v shapeCasts_S491520_S240x16x128 (ix3 t ⟨r / 128, by omega⟩ ⟨r % 128, by omega⟩) = v (ix1 n) := by
  refine shapeCast_apply v _ _ (ix1 n) ?_
  refine (Shape.rowMajor_val_one _).trans (Eq.trans ?_ (Shape.rowMajor_val_three _).symm)
  show n.val = (t.val * 16 + r / 128) * 128 + r % 128
  omega

theorem scales_at (c : Dev nD) (t : Fin cfg0.N) (r : ℕ) (hr : r < 2048) (n : Fin 491520) (hn : n.val = 2048 * t.val + r) :
    (iblk m c 1 t : Vec Ideal S1x16x128 .f32) (ix3 0 ⟨r / 128, by omega⟩ ⟨r % 128, by omega⟩) = m ((c : Thread nD τ).loc main_arg2) (ix1 n) := by
  rw [← rowVec_at (m ((c : Thread nD τ).loc main_arg2)) ⟨t.val, point_lt t⟩ r hr n hn, ← V_main_v2 m c]
  show V m c main_v2 (((cfg0.win 1).blk t).view.emb (ix3 0 ⟨r / 128, by omega⟩ ⟨r % 128, by omega⟩)) = V m c main_v2 _
  obtain ⟨e0, e1, e2⟩ := index1 t
  refine congrArg (V m c main_v2) (funext fun a => Fin.ext ?_)
  match a with
  | ⟨0, _⟩ => show win0_1.index t (0 : Fin 3) * 1 + 1 * 0 = t.val; omega
  | ⟨1, _⟩ => show win0_1.index t (1 : Fin 3) * 16 + 1 * (r / 128) = r / 128; omega
  | ⟨2, _⟩ => show win0_1.index t (2 : Fin 3) * 128 + 1 * (r % 128) = r % 128; omega

theorem norms_at (c : Dev nD) (t : Fin cfg0.N) (r : ℕ) (hr : r < 2048) (n : Fin 491520) (hn : n.val = 2048 * t.val + r) :
    (iblk m c 2 t : Vec Ideal S1x16x128 .f32) (ix3 0 ⟨r / 128, by omega⟩ ⟨r % 128, by omega⟩) = m ((c : Thread nD τ).loc main_arg3) (ix1 n) := by
  rw [← rowVec_at (m ((c : Thread nD τ).loc main_arg3)) ⟨t.val, point_lt t⟩ r hr n hn, ← V_main_v3 m c]
  show V m c main_v3 (((cfg0.win 2).blk t).view.emb (ix3 0 ⟨r / 128, by omega⟩ ⟨r % 128, by omega⟩)) = V m c main_v3 _
  obtain ⟨e0, e1, e2⟩ := index2 t
  refine congrArg (V m c main_v3) (funext fun a => Fin.ext ?_)
  match a with
  | ⟨0, _⟩ => show win0_2.index t (0 : Fin 3) * 1 + 1 * 0 = t.val; omega
  | ⟨1, _⟩ => show win0_2.index t (1 : Fin 3) * 16 + 1 * (r / 128) = r / 128; omega
  | ⟨2, _⟩ => show win0_2.index t (2 : Fin 3) * 128 + 1 * (r % 128) = r % 128; omega

/-- The queries' block: the whole array. -/
theorem queries_at (c : Dev nD) (t : Fin cfg0.N) (k : Fin 768) (q : Fin 4096) :
    (iblk m c 3 t : Vec Ideal S768x4096 .bf16) (ix2 k q)
      = m ((c : Thread nD τ).loc main_arg0) (ix3 ⟨q.val / 2048, by omega⟩ ⟨q.val % 2048, by omega⟩ k) := by
  have e : (iblk m c 3 t : Vec Ideal S768x4096 .bf16) (ix2 k q) = V m c main_v1 (ix2 k q) := by
    show V m c main_v1 (((cfg0.win 3).blk t).view.emb (ix2 k q)) = V m c main_v1 (ix2 k q)
    obtain ⟨e0, e1⟩ := index3 t
    refine congrArg (V m c main_v1) (funext fun a => Fin.ext ?_)
    match a with
    | ⟨0, _⟩ => show win0_3.index t (0 : Fin 2) * 768 + 1 * k.val = k.val; omega
    | ⟨1, _⟩ => show win0_3.index t (1 : Fin 2) * 4096 + 1 * q.val = q.val; omega
  rw [e, V_main_v1, transpose_apply [1, 0] _ _ (ix2 k q) (ix2 q k) (by intro x; fin_cases x <;> rfl)]
  refine shapeCast_apply _ _ _ (ix3 ⟨q.val / 2048, by omega⟩ ⟨q.val % 2048, by omega⟩ k) ?_
  refine (Shape.rowMajor_val_three _).trans (Eq.trans ?_ (Shape.rowMajor_val_two _).symm)
  show (q.val / 2048 * 2048 + q.val % 2048) * 768 + k.val = q.val * 768 + k.val
  omega

/-- A point's score is the problem's. -/
theorem ps_score (c : Dev nD) (t : Fin cfg0.N) (r q : ℕ) (hr : r < 2048) (hq : q < 4096) :
    ps (iblk m c 0 t) (iblk m c 1 t) (iblk m c 2 t) (iblk m c 3 t) r q
      = rowScore (m ((c : Thread nD τ).loc main_arg0)) (m ((c : Thread nD τ).loc main_arg1)) (m ((c : Thread nD τ).loc main_arg2))
          (m ((c : Thread nD τ).loc main_arg3)) q (2048 * t.val + r) := by
  have ht := point_lt t
  have hn : 2048 * t.val + r < 491520 := by omega
  rw [ps, dif_pos ⟨hr, hq⟩, rowScore, dif_pos ⟨hq, hn⟩, scales_at m c t r hr ⟨_, hn⟩ rfl, norms_at m c t r hr ⟨_, hn⟩ rfl]
  refine congrArg (fun z : EReal => z * _ - _) (Finset.sum_congr rfl fun k _ => ?_)
  rw [codes_at m c t ⟨r, hr⟩ k ⟨_, hn⟩ rfl, queries_at m c t k ⟨q, hq⟩]

end Cert.TopK
-- ==== Proof.Final.lean ====
/-
  One trip of the kernel's final loop, as the generated run found it: for 128 queries it merges the 46 vectors of state
  into ten, joins the eight places of every lane by three rotations, and stores the ten best of each query as rows of the
  result, six rows of zeros below them.
-/
module

public import proofs.«01_k».proof.Proof.Trip

@[expose] public section

noncomputable section

namespace Cert.TopK

open Idealize.ShloMosaic Idealize.ShloMosaic.TcCoe Cert.KernelIdeal Cert.KernelIdeal.Gen

/-- Where vector `i` of the state of the trip's queries lies. -/
def place' (k : Fin k0_t2_loop.trips) (i : ℕ) : Fin 4 → ℕ := ![k0_off48 k 0, i, 0, 0]

theorem place'_inb (i : grid0.Coords) (h2 : k0_cond2 i = 1#1) (k : Fin k0_t2_loop.trips) (n : ℕ) (hn : n < 46) :
    ∀ a, place' k n a + S1x1x8x128.size a ≤ S32x46x8x128.size a := by
  have h0 := k0_off48_inb i k h2 0
  intro a
  fin_cases a
  · exact h0
  · show n + 1 ≤ 46
    omega
  · show 0 + 8 ≤ 8
    omega
  · show 0 + 128 ≤ 128
    omega

/-- Vector `n` of the state of the trip's queries, loaded. -/
def load' (i : grid0.Coords) (h2 : k0_cond2 i = 1#1) (arg9 : Memref sig .tc .vmem S32x46x8x128 .f32)
    (X9 : BufTy.Contents (Elt Ideal) arg9.view.ty) (k : Fin k0_t2_loop.trips) (n : ℕ) : Tile :=
  if hn : n < 46 then
    k0_pay10 (arg9.view.readAt (Elt Ideal) (Rect.unit (s := S32x46x8x128) (place' k n) S1x1x8x128.size (place'_inb i h2 k n hn)).toLoadRect X9)
  else fun _ => (⊥ : EReal)

/-- Rotation of the eight places. -/
def roll (n : BitVec 32) (v : Tile) : Tile := dynamicRotate 0 n none v Facts₀.rotates_S8x128_d0

/-- The ten vectors of which place zero holds the ten best of every lane. -/
def best (s : St Tile) : S10 Tile :=
  cross maximumf minimumf (roll 1#32) (cross maximumf minimumf (roll 2#32) (cross maximumf minimumf (roll 4#32) (merge maximumf minimumf s)))

/-- The sixteen rows stored: place zero of ten vectors, then zeros. -/
def bestRows (b : S10 Tile) : FVec Ideal S16x128 .f32 :=
  k0_pay8 b.a0 b.a1 b.a2 b.a3 b.a4 b.a5 b.a6 b.a7 b.a8 b.a9
    (extractStridedSlice S1x128 ![0, 0] (constant (F := Ideal) S8x128 .f32 0x00000000#32) Facts₀.slices_S8x128_o0_0_S1x128)

set_option maxRecDepth 65536 in
/-- What one trip of the final loop stores. -/
theorem final_stores (𝒱 : Variants) (c : Dev nD) (bd : Option 𝒱.V) (i : grid0.Coords) (arg1 : Memref sig .tc .vmem S2048x768 .i8) (harg1 : arg1.IsWhole) (arg2 : Memref sig .tc .vmem S1x16x128 .f32) (harg2 : arg2.IsWhole) (arg3 : Memref sig .tc .vmem S1x16x128 .f32) (harg3 : arg3.IsWhole) (arg4 : Memref sig .tc .vmem S768x4096 .bf16) (harg4 : arg4.IsWhole) (arg5 : Memref sig .tc .vmem S16x4096 .f32) (harg5 : arg5.IsWhole) (arg6 : Memref sig .tc .vmem S2048x768 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S32x46x8x128 .f32) (harg9 : arg9.IsWhole) (h2 : k0_cond2 i = 1#1) (X9 : BufTy.Contents (Elt Ideal) arg9.view.ty) (k : Fin k0_t2_loop.trips) :
    tripL_k0_t2 (F := Ideal) 𝒱 c bd i arg1 harg1 arg2 harg2 arg3 harg3 arg4 harg4 arg5 harg5 arg6 harg6 arg7 harg7 arg8 harg8 arg9 harg9 h2 X9 k
      = [⟨Rect.unit (s := S16x4096) (k0_off94 k) S16x128.size (k0_off94_inb i k h2), bestRows (best (St.of (load' i h2 arg9 X9 k)))⟩] := by
  sl_kernel_rfl

end Cert.TopK
-- ==== Proof.Count.lean ====
/-
  What the streams hold, by counting. A descending list of `d` places REPRESENTS a counting function `N` (how many of the
  values seen exceed each threshold) when, at every threshold `c`, place `i` exceeds `c` exactly if `i < N c`. Inserting a
  value adds one to `N` below it. At every node of the comparator tree the smaller halves never outnumber the larger ones
  above any threshold, so keeping half as many of them is enough: the fifteen streams together determine the ten largest
  of everything pushed.
-/
module

public import Mathlib.Data.EReal.Basic
public import Mathlib.Algebra.BigOperators.Intervals
public import proofs.«01_k».proof.Proof.Streams

@[expose] public section

namespace Cert.TopK

open Finset

/-- One if `x` exceeds `c`, else zero. -/
noncomputable def I (c x : EReal) : ℕ := if c < x then 1 else 0

theorem I_le (c x : EReal) : I c x ≤ 1 := by unfold I; split <;> omega

/-- A pair's larger and smaller value count as the pair does, and the smaller counts no more than the larger. -/
theorem I_pair (c x y : EReal) : I c (max x y) + I c (min x y) = I c x + I c y ∧ I c (min x y) ≤ I c (max x y) := by
  unfold I
  by_cases hx : c < x <;> by_cases hy : c < y <;> simp [hx, hy]

/-- The list `l` represents the counting function `N`. -/
def Rep (l : List EReal) (N : EReal → ℕ) : Prop := ∀ c, ∀ i (h : i < l.length), c < l[i] ↔ i < N c

/-- Insertion on lists: the form the proofs recurse on. -/
noncomputable def insL : List EReal → EReal → List EReal
  | [], _ => []
  | e :: t, v => max e v :: insL t (min e v)

theorem length_insL (l : List EReal) (v : EReal) : (insL l v).length = l.length := by
  induction l generalizing v with
  | nil => rfl
  | cons e t ih => simp [insL, ih]

theorem Rep.tail {e : EReal} {t : List EReal} {N : EReal → ℕ} (h : Rep (e :: t) N) : Rep t (fun c => N c - 1) := by
  intro c i hi
  have := h c (i + 1) (by simpa using hi)
  simp only [List.getElem_cons_succ] at this
  rw [this]; show i + 1 < N c ↔ i < N c - 1; omega

/-- Inserting `v` adds one to the count at every threshold below `v`. -/
theorem Rep.insL {l : List EReal} {N : EReal → ℕ} (h : Rep l N) (v : EReal) :
    Rep (insL l v) (fun c => N c + I c v) := by
  induction l generalizing N v with
  | nil => intro c i hi; simp [TopK.insL] at hi
  | cons e t ih =>
    have h0 : ∀ c, c < e ↔ 0 < N c := fun c => h c 0 (by simp)
    have ht := ih h.tail (min e v)
    intro c i hi
    cases i with
    | zero =>
      simp only [TopK.insL, List.getElem_cons_zero, lt_max_iff, h0 c]
      unfold I; by_cases hv : c < v <;> simp [hv]
    | succ i =>
      have hi' : i < (TopK.insL t (min e v)).length := by simpa [TopK.insL] using hi
      have := ht c i hi'
      simp only [TopK.insL, List.getElem_cons_succ]
      rw [this]
      unfold I
      by_cases he : c < e
      · have hN := (h0 c).mp he
        by_cases hv : c < v <;> simp [he, hv] <;> omega
      · have hN : N c = 0 := by have := (h0 c).not.mp he; omega
        simp [he, hN]
        by_cases hv : c < v <;> simp [hv]

/-- Only the first `l.length` counts matter. -/
theorem Rep.congr {l : List EReal} {N M : EReal → ℕ} (h : Rep l N) (hNM : ∀ c, min l.length (N c) = min l.length (M c)) :
    Rep l M := by
  intro c i hi
  rw [h c i hi]
  have := hNM c
  omega

/-- The values of a list that exceed `c`, counted. -/
noncomputable def cntL (l : List EReal) (c : EReal) : ℕ := (l.map (I c)).sum

theorem cntL_append (l m : List EReal) (c : EReal) : cntL (l ++ m) c = cntL l c + cntL m c := by simp [cntL]

/-- A list that represents `N` has `min l.length (N c)` values above `c`. -/
theorem Rep.cntL {l : List EReal} {N : EReal → ℕ} (h : Rep l N) (c : EReal) : cntL l c = min l.length (N c) := by
  induction l generalizing N with
  | nil => simp [TopK.cntL]
  | cons e t ih =>
    have h0 : c < e ↔ 0 < N c := h c 0 (by simp)
    have ht := ih h.tail
    simp only [TopK.cntL, List.map_cons, List.sum_cons, List.length_cons] at ht ⊢
    rw [ht]; unfold I
    by_cases he : c < e
    · have := h0.mp he; simp only [he, if_true]; omega
    · have : N c = 0 := by have := h0.not.mp he; omega
      simp [he, this]

/-- Two lists of one length that represent one counting function are equal. -/
theorem Rep.unique {l m : List EReal} {N : EReal → ℕ} (hl : Rep l N) (hm : Rep m N) (e : l.length = m.length) : l = m := by
  refine List.ext_getElem e fun i h1 h2 => ?_
  refine eq_of_forall_lt_iff fun c => ?_
  rw [hl c i h1, hm c i h2]

/-- A list of `-∞` represents nothing seen. -/
theorem Rep.bot (n : ℕ) : Rep (List.replicate n ⊥) (fun _ => 0) := by
  intro c i hi; simp

/-! ## The streams as lists -/

/-- The values of a stream of five, in order. -/
def S5.list {V : Type} (s : S5 V) : List V := [s.a0, s.a1, s.a2, s.a3, s.a4]

/-- The values of a stream of two, in order. -/
def S2.list {V : Type} (s : S2 V) : List V := [s.a0, s.a1]

theorem ins10_list (s : S10 EReal) (v : EReal) : (ins10 max min s v).list = insL s.list v := rfl
theorem ins5_list (s : S5 EReal) (v : EReal) : (ins5 max min s v).list = insL s.list v := rfl
theorem ins2_list (s : S2 EReal) (v : EReal) : (ins2 max min s v).list = insL s.list v := rfl

/-- Inserting a list of values one after another adds their counts. -/
theorem Rep.foldl (l : List EReal) {s : S10 EReal} {N : EReal → ℕ} (h : Rep s.list N) :
    Rep (l.foldl (ins10 max min) s).list (fun c => N c + TopK.cntL l c) := by
  induction l generalizing s N with
  | nil => simpa [TopK.cntL] using h
  | cons a l ih =>
    have h1 : Rep (ins10 max min s a).list (fun c => N c + I c a) := by rw [ins10_list]; exact h.insL a
    have h2 := ih h1
    simpa [TopK.cntL, Nat.add_assoc] using h2

/-! ## The comparator tree -/

/-- The values `v 0 … v (n - 1)` above `c`, counted. -/
noncomputable def cnt (n : ℕ) (v : ℕ → EReal) (c : EReal) : ℕ := ∑ j ∈ range n, I c (v j)

theorem cnt_one (v : ℕ → EReal) (c : EReal) : cnt 1 v c = I c (v 0) := by simp [cnt]

/-- One level: the larger and the smaller halves count as the whole, the smaller no more than the larger. -/
theorem cnt_pair (n : ℕ) (v : ℕ → EReal) (c : EReal) :
    cnt n (pair max v) c + cnt n (pair min v) c = cnt (2 * n) v c ∧ cnt n (pair min v) c ≤ cnt n (pair max v) c := by
  induction n with
  | zero => simp [cnt]
  | succ n ih =>
    have e : 2 * (n + 1) = 2 * n + 1 + 1 := by omega
    have h := I_pair c (v (2 * n)) (v (2 * n + 1))
    simp only [cnt, e, sum_range_succ] at ih ⊢
    simp only [pair] at ih ⊢
    omega

/-- The operation of a letter of a path: `true` is `h`, the larger. -/
noncomputable def sel (b : Bool) : EReal → EReal → EReal := if b then max else min

/-- The values at a node of the tree, the path read from the last letter to the first. -/
noncomputable def node (v : ℕ → EReal) : List Bool → ℕ → EReal
  | [] => v
  | b :: k => pair (sel b) (node v k)

/-- Counting functions at the nodes: a node's count is its children's together, the smaller ones' no more than the larger
    ones'. -/
structure Tree (N : List Bool → EReal → ℕ) : Prop where
  split : ∀ k c, k.length < 4 → N (true :: k) c + N (false :: k) c = N k c
  le : ∀ k c, k.length < 4 → N (false :: k) c ≤ N (true :: k) c

/-- The counts that one group of sixteen adds at the nodes. -/
noncomputable def grp (v : ℕ → EReal) (k : List Bool) (c : EReal) : ℕ := cnt (2 ^ (4 - k.length)) (node v k) c

theorem tree_grp (v : ℕ → EReal) : Tree (grp v) := by
  have key : ∀ k c, k.length < 4 → grp v (true :: k) c + grp v (false :: k) c = grp v k c ∧
      grp v (false :: k) c ≤ grp v (true :: k) c := by
    intro k c hk
    have e : 2 ^ (4 - k.length) = 2 * 2 ^ (4 - (k.length + 1)) := by
      rw [← pow_succ']; congr 1; omega
    have := cnt_pair (2 ^ (4 - (k.length + 1))) (node v k) c
    simp only [grp, List.length_cons, e]
    simpa [node, sel] using this
  exact ⟨fun k c h => (key k c h).1, fun k c h => (key k c h).2⟩

theorem Tree.add {N M : List Bool → EReal → ℕ} (hN : Tree N) (hM : Tree M) : Tree (fun k c => N k c + M k c) where
  split k c h := by have := hN.split k c h; have := hM.split k c h; omega
  le k c h := by have := hN.le k c h; have := hM.le k c h; omega

/-- A leaf receives one value of the group. -/
theorem grp_leaf (v : ℕ → EReal) (a b d e : Bool) (c : EReal) :
    grp v [a, b, d, e] c = I c (pair (sel a) (pair (sel b) (pair (sel d) (pair (sel e) v))) 0) := by
  simp [grp, node, cnt_one]

theorem grp_root (v : ℕ → EReal) (c : EReal) : grp v [] c = cnt 16 v c := by simp [grp, node]

/-- The state holds what was pushed: there are counts at the nodes of which the root's is `M`, and every stream represents
    its leaf's. -/
structure Holds (s : St EReal) (N : List Bool → EReal → ℕ) : Prop where
  tree : Tree N
  hhhh : Rep s.hhhh.list (N [true, true, true, true])
  hhhl : Rep s.hhhl.list (N [false, true, true, true])
  hhlh : Rep s.hhlh.list (N [true, false, true, true])
  hhll : Rep s.hhll.list (N [false, false, true, true])
  hlhh : Rep s.hlhh.list (N [true, true, false, true])
  hlhl : Rep s.hlhl.list (N [false, true, false, true])
  hllh : Rep s.hllh.list (N [true, false, false, true])
  hlll : Rep [s.hlll] (N [false, false, false, true])
  lhhh : Rep s.lhhh.list (N [true, true, true, false])
  lhhl : Rep s.lhhl.list (N [false, true, true, false])
  lhlh : Rep s.lhlh.list (N [true, false, true, false])
  lhll : Rep [s.lhll] (N [false, false, true, false])
  llhh : Rep s.llhh.list (N [true, true, false, false])
  llhl : Rep [s.llhl] (N [false, true, false, false])
  lllh : Rep [s.lllh] (N [true, false, false, false])

/-- Pushing a group adds its counts. -/
theorem Holds.gstep {s : St EReal} {N : List Bool → EReal → ℕ} (h : Holds s N) (v : ℕ → EReal) :
    Holds (gstep max min s v) (fun k c => N k c + grp v k c) := by
  have aux : ∀ {l : List EReal} {k : List Bool} (a b d e : Bool), k = [a, b, d, e] → Rep l (N k) →
      Rep (insL l (pair (sel a) (pair (sel b) (pair (sel d) (pair (sel e) v))) 0)) (fun c => N k c + grp v k c) := by
    intro l k a b d e hk hl
    subst hk
    have := hl.insL (pair (sel a) (pair (sel b) (pair (sel d) (pair (sel e) v))) 0)
    simpa only [grp_leaf] using this
  exact ⟨h.tree.add (tree_grp v),
    aux true true true true rfl h.hhhh, aux false true true true rfl h.hhhl, aux true false true true rfl h.hhlh,
    aux false false true true rfl h.hhll, aux true true false true rfl h.hlhh, aux false true false true rfl h.hlhl,
    aux true false false true rfl h.hllh, aux false false false true rfl h.hlll, aux true true true false rfl h.lhhh,
    aux false true true false rfl h.lhhl, aux true false true false rfl h.lhlh, aux false false true false rfl h.lhll,
    aux true true false false rfl h.llhh, aux false true false false rfl h.llhl, aux true false false false rfl h.lllh⟩

/-- One node: what is kept of the halves determines, up to `d`, what the whole would. -/
theorem keep (d Nh Nl Fh Fl : ℕ) (hle : Nl ≤ Nh) (h1 : Fh ≤ Nh ∧ min d Fh = min d Nh)
    (h2 : Fl ≤ Nl ∧ min (d / 2) Fl = min (d / 2) Nl) :
    Fh + Fl ≤ Nh + Nl ∧ min d (Fh + Fl) = min d (Nh + Nl) := by
  omega

theorem keep_leaf (d N : ℕ) : min d N ≤ N ∧ min d (min d N) = min d N := by omega

/-- The merged list represents everything pushed. -/
theorem Holds.merge {s : St EReal} {N : List Bool → EReal → ℕ} (h : Holds s N) :
    Rep (merge max min s).list (N []) := by
  have h1 := Rep.foldl (s.list.drop 10) h.hhhh
  refine h1.congr fun c => ?_
  have hl : (List.foldl (ins10 max min) s.hhhh (s.list.drop 10)).list.length = 10 := rfl
  rw [hl]
  have hsplit : s.list.drop 10 = s.hhhl.list ++ (s.hhlh.list ++ (s.hhll.list ++ (s.hlhh.list ++ (s.hlhl.list ++
      (s.hllh.list ++ ([s.hlll] ++ (s.lhhh.list ++ (s.lhhl.list ++ (s.lhlh.list ++ ([s.lhll] ++ (s.llhh.list ++
      ([s.llhl] ++ [s.lllh])))))))))))) := rfl
  rw [hsplit]
  simp only [cntL_append, h.hhhl.cntL c, h.hhlh.cntL c, h.hhll.cntL c, h.hlhh.cntL c, h.hlhl.cntL c, h.hllh.cntL c,
    h.hlll.cntL c, h.lhhh.cntL c, h.lhhl.cntL c, h.lhlh.cntL c, h.lhll.cntL c, h.llhh.cntL c, h.llhl.cntL c,
    h.lllh.cntL c]
  simp only [S5.list, S2.list, List.length_cons, List.length_nil, Nat.zero_add, Nat.reduceAdd]
  have T := h.tree
  have sp : ∀ k, k.length < 4 → N k c = N (true :: k) c + N (false :: k) c := fun k hk => (T.split k c hk).symm
  -- from the leaves up: `F` is what is kept below a node
  have L := fun (d : ℕ) (k : List Bool) => keep_leaf d (N k c)
  have up : ∀ (d : ℕ) (k : List Bool) (Fh Fl : ℕ), k.length < 4 → (Fh ≤ N (true :: k) c ∧ min d Fh = min d (N (true :: k) c)) →
      (Fl ≤ N (false :: k) c ∧ min (d / 2) Fl = min (d / 2) (N (false :: k) c)) →
      Fh + Fl ≤ N k c ∧ min d (Fh + Fl) = min d (N k c) := by
    intro d k Fh Fl hk a b
    rw [sp k hk]
    exact keep d _ _ Fh Fl (T.le k c hk) a b
  have z : ∀ k, 0 ≤ N k c ∧ min 0 0 = min 0 (N k c) := fun k => by omega
  have hhh := up 10 [true, true, true] _ _ (by decide) (L 10 _) (L 5 _)
  have hhl := up 5 [false, true, true] _ _ (by decide) (L 5 _) (L 2 _)
  have hlh := up 5 [true, false, true] _ _ (by decide) (L 5 _) (L 2 _)
  have hll := up 2 [false, false, true] _ _ (by decide) (L 2 _) (L 1 _)
  have lhh := up 5 [true, true, false] _ _ (by decide) (L 5 _) (L 2 _)
  have lhl := up 2 [false, true, false] _ _ (by decide) (L 2 _) (L 1 _)
  have llh := up 2 [true, false, false] _ _ (by decide) (L 2 _) (L 1 _)
  have lll := up 1 [false, false, false] _ _ (by decide) (L 1 _) (z _)
  have hh := up 10 [true, true] _ _ (by decide) hhh hhl
  have hl := up 5 [false, true] _ _ (by decide) hlh hll
  have lh := up 5 [true, false] _ _ (by decide) lhh lhl
  have ll := up 2 [false, false] _ _ (by decide) llh lll
  have h' := up 10 [true] _ _ (by decide) hh hl
  have l' := up 5 [false] _ _ (by decide) lh ll
  have r := (up 10 [] _ _ (by decide) h' l').2
  have e : ∀ (hhhh a b : ℕ), min 10 hhhh + a = b → min 10 (hhhh + a) = min 10 b := by intros; omega
  rw [← r]
  refine e _ _ _ ?_
  ring

/-- Taking in the ten values of another list adds what that list represents. -/
theorem Rep.absorb {s t : S10 EReal} {N M : EReal → ℕ} (hs : Rep s.list N) (ht : Rep t.list M) :
    Rep (absorb max min s t).list (fun c => N c + M c) := by
  refine (Rep.foldl t.list hs).congr fun c => ?_
  rw [ht.cntL c]
  have e1 : (List.foldl (ins10 max min) s t.list).list.length = 10 := rfl
  have e2 : t.list.length = 10 := rfl
  rw [e1, e2]; omega

/-- The empty state: every value `-∞`. -/
theorem Holds.bot : Holds (St.of fun _ => ⊥) (fun _ _ => 0) :=
  ⟨⟨fun _ _ _ => rfl, fun _ _ _ => Nat.le_refl _⟩, Rep.bot 10, Rep.bot 5, Rep.bot 5, Rep.bot 2, Rep.bot 5, Rep.bot 2,
    Rep.bot 2, Rep.bot 1, Rep.bot 5, Rep.bot 2, Rep.bot 2, Rep.bot 1, Rep.bot 2, Rep.bot 1, Rep.bot 1⟩

/-- After `n` groups from a state that holds counts with root `M`, the state holds counts whose root has the groups'
    values added. -/
theorem Holds.gsteps {s : St EReal} {N : List Bool → EReal → ℕ} (h : Holds s N) (v : ℕ → ℕ → EReal) (n : ℕ) :
    ∃ N', Holds (gsteps max min s v n) N' ∧ ∀ c, N' [] c = N [] c + ∑ g ∈ range n, cnt 16 (v g) c := by
  induction n with
  | zero => exact ⟨N, h, fun c => by simp⟩
  | succ n ih =>
    obtain ⟨N', h', e⟩ := ih
    refine ⟨_, h'.gstep (v n), fun c => ?_⟩
    rw [e, grp_root, sum_range_succ]; omega

end Cert.TopK
-- ==== Proof.Total.lean ====
/-
  From the eight places of a lane to the whole row. Place `a` of a lane sees, in group `g`, the rows `128 g + 8 i + a` of
  the database; the last step of the kernel joins the eight places pairwise (at distance four, two and one). Together
  they have seen every row once.
-/
module

public import proofs.«01_k».proof.Proof.Count
public import Mathlib.Tactic.Ring

@[expose] public section

namespace Cert.TopK

open Finset

/-- A sum over `8 n` consecutive numbers, by remainder. -/
theorem sum_by_remainder (f : ℕ → ℕ) (n : ℕ) :
    ∑ m ∈ range (8 * n), f m = ∑ j ∈ range n, ∑ a ∈ range 8, f (8 * j + a) := by
  induction n with
  | zero => simp
  | succ n ih => rw [show 8 * (n + 1) = 8 * n + 8 by omega, sum_range_add, ih, sum_range_succ _ n]

/-- The eight places together have seen every row of the first `G` groups once. -/
theorem places_total (s : ℕ → EReal) (c : EReal) (G : ℕ) :
    ∑ a ∈ range 8, ∑ g ∈ range G, cnt 16 (fun i => s (128 * g + 8 * i + a)) c = ∑ n ∈ range (128 * G), I c (s n) := by
  induction G with
  | zero => simp
  | succ G ih =>
    have e : ∑ x ∈ range (8 * 16), I c (s (128 * G + x)) =
        ∑ a ∈ range 8, cnt 16 (fun i => s (128 * G + 8 * i + a)) c := by
      rw [sum_by_remainder]
      unfold cnt
      rw [sum_comm]
      refine sum_congr rfl fun a _ => sum_congr rfl fun i _ => ?_
      show I c (s (128 * G + (8 * i + a))) = I c (s (128 * G + 8 * i + a))
      rw [Nat.add_assoc]
    have e' : 128 * (G + 1) = 128 * G + 8 * 16 := by omega
    rw [e', sum_range_add, ← ih, e, ← sum_add_distrib]
    refine sum_congr rfl fun a _ => ?_
    exact sum_range_succ _ G

/-- What the cross-place step with the three distances `4, 2, 1` collects at place `0` is everything, wherever a place
    finds its partner (`p4`, `p2`, `p1`), as long as the partners are the cyclic neighbours at these distances. -/
theorem places_join (M : ℕ → ℕ) :
    (M 0 + M 4 + (M 6 + M 2)) + (M 7 + M 3 + (M 5 + M 1)) = ∑ a ∈ range 8, M a := by
  simp only [sum_range_succ, sum_range_zero]; ring

end Cert.TopK
-- ==== Proof.Last.lean ====
/-
  The last grid point's result, entry by entry: of every query, row `i` of the result is the entry of rank `i` among all
  the values that the query's eight places hold.
-/
module

public import proofs.«01_k».proof.Proof.Point
public import proofs.«01_k».proof.Proof.Final
public import proofs.«01_k».proof.Proof.Count
public import proofs.«01_k».proof.Proof.Total
public import Idealize.ShloMosaic.Lib.KernelVsHost

@[expose] public section

noncomputable section

namespace Cert.TopK

open Idealize.ShloMosaic Idealize.ShloMosaic.TcCoe Idealize.ShloMosaic.ValueIdx Cert.KernelIdeal Cert.KernelIdeal.Gen Finset

/-- Every place `a` of lane `l` of a stream of ten vectors represents the counts `M a`. -/
def RepAt (S : S10 Tile) (l : Fin 128) (M : ℕ → EReal → ℕ) : Prop :=
  ∀ a : Fin 8, Rep (S.map fun v => v (ix2 a l)).list (M a.val)

/-- A rotation of the places. -/
theorem roll_apply (n : ℕ) (hn : n < 8) (v : Tile) (a : Fin 8) (l : Fin 128) :
    roll (BitVec.ofNat 32 n) v (ix2 a l) = v (ix2 ⟨(a.val + 8 - n) % 8, Nat.mod_lt _ (by decide)⟩ l) := by
  rw [roll, dynamicRotate_apply 0 (BitVec.ofNat 32 n) v _ (ix2 a l) (ix2 ⟨(a.val + 8 - n) % 8, Nat.mod_lt _ (by decide)⟩ l)]
  have e : (BitVec.ofNat 32 n).toNat % 8 = n := by
    rw [BitVec.toNat_ofNat]
    omega
  intro b
  fin_cases b
  · show (a.val + 8 - n) % 8 = (a.val + 8 - (BitVec.ofNat 32 n).toNat % 8) % 8
    rw [e]
  · rfl

/-- Taking in a rotated copy adds the counts of the place it comes from. -/
theorem RepAt.cross {S : S10 Tile} {l : Fin 128} {M : ℕ → EReal → ℕ} (h : RepAt S l M) (n : ℕ) (hn : n < 8) :
    RepAt (cross maximumf minimumf (roll (BitVec.ofNat 32 n)) S) l (fun a c => M a c + M ((a + 8 - n) % 8) c) := by
  intro a
  rw [TopK.cross, absorb_map (mx' := max) (mn' := min) (f := fun v : Tile => v (ix2 a l)) (fun _ _ => rfl) (fun _ _ => rfl)]
  have e : (S.map (roll (BitVec.ofNat 32 n))).map (fun v : Tile => v (ix2 a l))
      = S.map fun v => v (ix2 ⟨(a.val + 8 - n) % 8, Nat.mod_lt _ (by decide)⟩ l) := by
    simp only [S10.map, roll_apply n hn]
  rw [e]
  exact Rep.absorb (h a) (h ⟨(a.val + 8 - n) % 8, Nat.mod_lt _ (by decide)⟩)

/-- Place zero of the ten vectors represents what the eight places hold together. -/
theorem best_rep (s : St Tile) (l : Fin 128) (N : ℕ → List Bool → EReal → ℕ)
    (h : ∀ a : Fin 8, Holds (s.map fun v => v (ix2 a l)) (N a.val)) :
    Rep ((best s).map fun v => v (ix2 0 l)).list (fun c => ∑ a ∈ range 8, N a [] c) := by
  have h0 : RepAt (merge maximumf minimumf s) l (fun a => N a []) := by
    intro a
    rw [merge_map (mx' := max) (mn' := min) (f := fun v : Tile => v (ix2 a l)) (fun _ _ => rfl) (fun _ _ => rfl)]
    exact (h a).merge
  have h3 := ((h0.cross 4 (by decide)).cross 2 (by decide)).cross 1 (by decide) 0
  intro c k hk
  refine (h3 c k hk).trans ?_
  show _ ↔ k < ∑ a ∈ range 8, N a [] c
  rw [← places_join fun a => N a [] c]
  exact Iff.rfl

/-- A stored row. -/
theorem bestRows_apply (b : S10 Tile) (i : Fin 16) (hi : i.val < 10) (l : Fin 128) :
    bestRows b (ix2 i l) = (b.map fun v => v (ix2 0 l)).list[i.val]'hi := by
  have key : ∀ f : Fin 16 → FVec Ideal S1x128 .f32, ∀ h, concatenate S16x128 0
      (List.ofFn fun n : Fin 16 => (⟨S1x128, f n⟩ : (s : Shape) × (s.Idx → EReal))) h (ix2 i l) = f i (ix2 0 l) := by
    intro f h
    exact concatenate_ofFn_unit_apply (t := S16x128) (s₁ := S1x128) 0 f h rfl rfl (ix2 i l) i rfl (ix2 0 l) (by
      intro x hx
      fin_cases x
      · exact absurd rfl hx
      · rfl)
  let z : FVec Ideal S1x128 .f32 := extractStridedSlice S1x128 ![0, 0] (constant (F := Ideal) S8x128 .f32 0x00000000#32) Facts₀.slices_S8x128_o0_0_S1x128
  let e : Tile → FVec Ideal S1x128 .f32 := fun v => extractStridedSlice S1x128 ![0, 0] v Facts₀.slices_S8x128_o0_0_S1x128
  refine (key ![e b.a0, e b.a1, e b.a2, e b.a3, e b.a4, e b.a5, e b.a6, e b.a7, e b.a8, e b.a9, z, z, z, z, z, z]
    Facts₀.concatenates_S1x128_S1x128_S1x128_S1x128_S1x128_S1x128_S1x128_S1x128_S1x128_S1x128_S1x128_S1x128_S1x128_S1x128_S1x128_S1x128_S16x128_d0).trans ?_
  have e0 : ∀ v : Tile, e v (ix2 0 l) = v (ix2 0 l) := fun v => congrArg v (funext fun x => Fin.ext (by
    fin_cases x
    · rfl
    · show 0 + l.val = l.val
      omega))
  obtain ⟨i, hi'⟩ := i
  have hi2 : i < 10 := hi
  interval_cases i <;> exact e0 _

/-- The first lane of a trip's queries. -/
theorem off94_val : ∀ k : Fin k0_t2_loop.trips, k0_off94 k 1 = 128 * k.val := by decide +kernel

theorem off94_zero : ∀ k : Fin k0_t2_loop.trips, k0_off94 k 0 = 0 := by decide +kernel

theorem off48_val : ∀ k : Fin k0_t2_loop.trips, k0_off48 k 0 = k.val := by decide +kernel

theorem trips2_eq : k0_t2_loop.trips = 32 := by decide +kernel

theorem trip2_lt (k : Fin k0_t2_loop.trips) : k.val < 32 := lt_of_lt_of_eq k.isLt trips2_eq

theorem of_map {V W : Type} (f : ℕ → V) (g : V → W) : (St.of f).map g = St.of fun m => g (f m) := rfl

/-- The loaded state of trip `k` is the state of block `k`. -/
theorem load'_at (i : grid0.Coords) (h2 : k0_cond2 i = 1#1) (arg9 : Memref sig .tc .vmem S32x46x8x128 .f32)
    (X9 : BufTy.Contents (Elt Ideal) arg9.view.ty) (k : Fin k0_t2_loop.trips) (a : Fin 8) (b : Fin 128) :
    (St.of (load' i h2 arg9 X9 k)).map (fun v => v (ix2 a b)) = stAt (arg9.view.read (Elt Ideal) X9) ⟨k.val, trip2_lt k⟩ a b := by
  have e : (fun m => load' i h2 arg9 X9 k m (ix2 a b))
      = fun m => if hm : m < 46 then arg9.view.read (Elt Ideal) X9 (ix4 ⟨k.val, trip2_lt k⟩ ⟨m, hm⟩ a b) else ⊥ := by
    funext m
    by_cases hm : m < 46
    · rw [load', dif_pos hm, dif_pos hm, pay10_apply, View.readAt_apply]
      refine congrArg (arg9.view.read (Elt Ideal) X9) (funext fun x => Fin.ext ?_)
      fin_cases x
      · show k0_off48 k 0 + 1 * 0 = k.val
        rw [off48_val]
        omega
      · show m + 1 * 0 = m
        omega
      · show 0 + 1 * a.val = a.val
        omega
      · show 0 + 1 * b.val = b.val
        omega
    · rw [load', dif_neg hm, dif_neg hm]
  exact (of_map _ _).trans (congrArg St.of e)

section
variable (𝒱 : Variants) (c : Dev nD) (bd : Option 𝒱.V) (i : grid0.Coords) (arg1 : Memref sig .tc .vmem S2048x768 .i8) (harg1 : arg1.IsWhole) (arg2 : Memref sig .tc .vmem S1x16x128 .f32) (harg2 : arg2.IsWhole) (arg3 : Memref sig .tc .vmem S1x16x128 .f32) (harg3 : arg3.IsWhole) (arg4 : Memref sig .tc .vmem S768x4096 .bf16) (harg4 : arg4.IsWhole) (arg5 : Memref sig .tc .vmem S16x4096 .f32) (harg5 : arg5.IsWhole) (arg6 : Memref sig .tc .vmem S2048x768 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S32x46x8x128 .f32) (harg9 : arg9.IsWhole)

/-- The final loop's stores, read. -/
theorem final_at (h2 : k0_cond2 i = 1#1) (X9 : BufTy.Contents (Elt Ideal) arg9.view.ty) (v : View sig .tc .vmem S16x4096 .f32)
    (G : BufTy.Contents (Elt Ideal) v.ty) (r : Fin 16) (b : Fin 128) (t : Fin k0_t2_loop.trips) (j : ℕ)
    (hj : j ≤ k0_t2_loop.trips) (ht : t.val < j) :
    v.read (Elt Ideal) (v.writes (Elt Ideal) G (pb_k0_t2 (F := Ideal) 𝒱 c bd i arg1 harg1 arg2 harg2 arg3 harg3 arg4 harg4 arg5 harg5 arg6 harg6 arg7 harg7 arg8 harg8 arg9 harg9 h2 X9 j))
        (ix2 r ⟨128 * t.val + b.val, by have := trip2_lt t; omega⟩)
      = bestRows (best (St.of (load' i h2 arg9 X9 t))) (ix2 r b) := by
  induction j with
  | zero => omega
  | succ j ih =>
    rw [pb_k0_t2_succ 𝒱 c bd i arg1 harg1 arg2 harg2 arg3 harg3 arg4 harg4 arg5 harg5 arg6 harg6 arg7 harg7 arg8 harg8 arg9 harg9 h2 X9 ⟨j, hj⟩,
      final_stores, List.singleton_append]
    by_cases h : t.val = j
    · have e : (⟨j, hj⟩ : Fin k0_t2_loop.trips) = t := Fin.ext h.symm
      rw [e]
      exact View.read_writes_cons_unit_of_mem v G (k0_off94_inb i t h2) _ _ _ (ix2 r b) rfl (by
        intro x
        fin_cases x
        · show r.val = k0_off94 t 0 + r.val
          rw [off94_zero]
          omega
        · show 128 * t.val + b.val = k0_off94 t 1 + b.val
          rw [off94_val])
    · rw [View.read_writes_cons_unit_of_not_mem v G (k0_off94_inb i ⟨j, hj⟩ h2) _ _ _ rfl 1 (by
        have hb := b.isLt
        show 128 * t.val + b.val < k0_off94 ⟨j, hj⟩ 1 ∨ k0_off94 ⟨j, hj⟩ 1 + 128 ≤ 128 * t.val + b.val
        rw [off94_val]
        show 128 * t.val + b.val < 128 * j ∨ 128 * j + 128 ≤ 128 * t.val + b.val
        omega)]
      exact ih (by omega) (by omega)

end

section
variable (c : Dev nD) (i : grid0.Coords) (arg1 : Memref sig .tc .vmem S2048x768 .i8) (harg1 : arg1.IsWhole) (arg2 : Memref sig .tc .vmem S1x16x128 .f32) (harg2 : arg2.IsWhole) (arg3 : Memref sig .tc .vmem S1x16x128 .f32) (harg3 : arg3.IsWhole) (arg4 : Memref sig .tc .vmem S768x4096 .bf16) (harg4 : arg4.IsWhole) (arg5 : Memref sig .tc .vmem S16x4096 .f32) (harg5 : arg5.IsWhole) (arg6 : Memref sig .tc .vmem S2048x768 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S32x46x8x128 .f32) (harg9 : arg9.IsWhole)
  (x0 : Vec Ideal S2048x768 .i8) (x1 x2 : Vec Ideal S1x16x128 .f32) (x3 : Vec Ideal S768x4096 .bf16) (xs3 : Vec Ideal S32x46x8x128 .f32)

/-- The result of the last point. -/
theorem point_C (hc0 : ¬cond0_0 i) (hc1 : cond0_1 i) (t : Fin 32) (b : Fin 128) (N : ℕ → List Bool → EReal → ℕ)
    (h : ∀ a : Fin 8, Holds (gsteps max min (stAt xs3 t a b)
          (fun n j => ps x0 x1 x2 x3 (8 * (16 * n + j) + a.val) (128 * t.val + b.val)) 16) (N a.val))
    (r : Fin 16) (hr : r.val < 10) (x : EReal) :
    x < out0_C_4 c i arg1 harg1 arg2 harg2 arg3 harg3 arg4 harg4 arg5 harg5 arg6 harg6 arg7 harg7 arg8 harg8 arg9 harg9 hc0 hc1 x0 x1 x2 x3 xs3
        (ix2 r ⟨128 * t.val + b.val, by omega⟩)
      ↔ r.val < ∑ a ∈ range 8, N a [] x := by
  have e := final_at Variants.none c none i arg1 harg1 arg2 harg2 arg3 harg3 arg4 harg4 arg5 harg5 arg6 harg6 arg7 harg7 arg8 harg8 arg9 harg9
    (by simpa only [cond0_1] using hc1)
    (arg9.view.writes (Elt Ideal) (harg9.unread xs3)
      (loopStores c i arg1 harg1 arg2 harg2 arg3 harg3 arg4 harg4 arg5 harg5 arg6 harg6 arg7 harg7 arg8 harg8 arg9 harg9 x0 x1 x2 x3 (harg9.unread xs3)))
    VO0_4 VO0_4.junk r b ⟨t.val, lt_of_lt_of_eq t.isLt trips2_eq.symm⟩ k0_t2_loop.trips le_rfl (lt_of_lt_of_eq t.isLt trips2_eq.symm)
  rw [out0_C_4, run_C]
  refine (iff_of_eq (congrArg (x < ·) e)).trans ?_
  rw [bestRows_apply _ _ hr]
  refine best_rep _ b N (fun a => ?_) x r.val hr
  rw [load'_at]
  show Holds (stAt _ t a b) _
  rw [body_at, harg9.read_unread]
  exact h a

end

end Cert.TopK
-- ==== Proof.Sweep.lean ====
/-
  What the kernel's result holds. Point by point, the state of every place of every query comes to hold the scores of all
  the database rows the place has met; after the last point the result's row `i` is the score of rank `i` among all rows.
-/
module

public import proofs.«01_k».proof.Proof.Blocks
public import proofs.«01_k».proof.Proof.Last

@[expose] public section

noncomputable section

namespace Cert.TopK

open Idealize.ShloMosaic Idealize.ShloMosaic.TcCoe Idealize.ShloMosaic.ValueIdx Cert.KernelIdeal Cert.KernelIdeal.Gen Finset

variable (m : (ℓ : Loc nD τ sig) → Buf (Elt Ideal) ℓ) (c : Dev nD)

/-- The score of row `n` against query `q`, from the arguments in memory. -/
def memScore (q n : ℕ) : EReal :=
  rowScore (m ((c : Thread nD τ).loc main_arg0)) (m ((c : Thread nD τ).loc main_arg1)) (m ((c : Thread nD τ).loc main_arg2))
    (m ((c : Thread nD τ).loc main_arg3)) q n

/-- The scores above `x` among the rows that place `a` meets in the first `G` groups of 128 rows. -/
def met (q a G : ℕ) (x : EReal) : ℕ := ∑ g ∈ range G, cnt 16 (fun j => memScore m c q (128 * g + 8 * j + a)) x

/-- A point adds its sixteen groups. -/
theorem step_holds (t : Fin cfg0.N) (T : Fin 32) (a : Fin 8) (b : Fin 128) (s : St EReal) (N : List Bool → EReal → ℕ) (h : Holds s N)
    (hN : ∀ x, N [] x = met m c (128 * T.val + b.val) a.val (16 * t.val) x) :
    ∃ N', Holds (gsteps max min s (fun n j => ps (iblk m c 0 t) (iblk m c 1 t) (iblk m c 2 t) (iblk m c 3 t)
        (8 * (16 * n + j) + a.val) (128 * T.val + b.val)) 16) N'
      ∧ ∀ x, N' [] x = met m c (128 * T.val + b.val) a.val (16 * (t.val + 1)) x := by
  obtain ⟨N', h', e⟩ := h.gsteps (fun n j => ps (iblk m c 0 t) (iblk m c 1 t) (iblk m c 2 t) (iblk m c 3 t)
    (8 * (16 * n + j) + a.val) (128 * T.val + b.val)) 16
  refine ⟨N', h', fun x => ?_⟩
  rw [e, hN, met, met, show 16 * (t.val + 1) = 16 * t.val + 16 by ring, Finset.sum_range_add]
  refine congrArg (_ + ·) (Finset.sum_congr rfl fun g hg => Finset.sum_congr rfl fun j hj => ?_)
  have hg' := Finset.mem_range.mp hg
  have hj' := Finset.mem_range.mp hj
  show I x (ps _ _ _ _ _ _) = I x (memScore _ _ _ _)
  rw [ps_score m c t _ _ (by omega) (by omega), memScore]
  rw [show 2048 * t.val + (8 * (16 * g + j) + a.val) = 128 * (16 * t.val + g) + 8 * j + a.val by omega]

/-- The state after point `n`. -/
theorem state_holds (n : ℕ) (hn : n < cfg0.N) (h : n < 239) (T : Fin 32) (a : Fin 8) (b : Fin 128) :
    ∃ N, Holds (stAt (outsAt0 m c n hn).2 T a b) N ∧ ∀ x, N [] x = met m c (128 * T.val + b.val) a.val (16 * (n + 1)) x := by
  induction n with
  | zero =>
    have e := outsAt0_A m c ⟨0, hn⟩ rfl (by show ¬0 % 240 = 239; decide)
    rw [show outsAt0 m c 0 hn = _ from e]
    dsimp only
    rw [point_A]
    exact step_holds m c ⟨0, hn⟩ T a b _ _ Holds.bot fun x => by simp [met]
  | succ n ih =>
    obtain ⟨N, hN, e⟩ := ih (Nat.lt_of_succ_lt hn) (by omega)
    have e' := outsAt0_B m c ⟨n + 1, hn⟩ (by dsimp only; omega) (by dsimp only; omega)
    rw [show outsAt0 m c (n + 1) hn = _ from e']
    dsimp only
    rw [point_B]
    exact step_holds m c ⟨n + 1, hn⟩ T a b _ N hN e

/-- The result's entries: row `i` at query `q` is above `x` exactly when more than `i` of the query's scores are. -/
theorem lastOut_at (T : Fin 32) (b : Fin 128) (r : Fin 16) (hr : r.val < 10) (x : EReal) :
    x < (lastOut m c : Vec Ideal S16x4096 .f32) (ix2 r ⟨128 * T.val + b.val, by omega⟩)
      ↔ r.val < ∑ n ∈ range 491520, I x (memScore m c (128 * T.val + b.val) n) := by
  have hs : ∀ a : Fin 8, _ := fun a =>
    let ⟨N, hN, e⟩ := state_holds m c 238 (lt_of_lt_of_eq (by decide) N_0.symm) (by decide) T a b
    step_holds m c ⟨239, last_lt⟩ T a b _ N hN e
  choose N hN e using hs
  have e' := outsAt0_C m c ⟨239, last_lt⟩ (by show ¬239 % 240 = 0; decide) rfl
  rw [lastOut, show outsAt0 m c 239 last_lt = _ from e']
  dsimp only
  refine (point_C _ _ _ _ _ _ _ _ _ _ _ _ _ _ _ _ _ _ _ _ _ _ _ _ _ _ _ T b (fun a => if h : a < 8 then N ⟨a, h⟩ else fun _ _ => 0) (fun a => ?_) r hr x).trans ?_
  · rw [dif_pos a.isLt]
    exact hN a
  · rw [show 491520 = 128 * 3840 by norm_num, ← places_total (memScore m c (128 * T.val + b.val)) x 3840]
    refine iff_of_eq (congrArg (r.val < ·) (Finset.sum_congr rfl fun a ha => ?_))
    have ha' := Finset.mem_range.mp ha
    rw [dif_pos ha']
    exact e ⟨a, ha'⟩ x

end Cert.TopK
-- ==== Proof.Sorted.lean ====
/-
  The reference's `top_k`, by counting: entry `i` of a row sorted greatest first exceeds a threshold exactly if more than
  `i` values of the row do.
-/
module

public import Idealize.ShloMosaic.Lib.SortFacts
public import Idealize.ShloMosaic.PureOps.Ideal
public import proofs.«01_k».proof.Proof.Count

@[expose] public section

namespace Cert.TopK

open Idealize.ShloMosaic Finset

/-- A property of positions that is inherited by every earlier position holds exactly at the first so many. -/
theorem initial_iff {n : ℕ} (P : Fin n → Prop) [DecidablePred P] (h : ∀ i j : Fin n, i < j → P j → P i) (i : Fin n) :
    P i ↔ i.val < (univ.filter P).card := by
  constructor
  · intro hi
    have : Finset.Iic i ⊆ univ.filter P := by
      intro j hj
      rw [Finset.mem_Iic] at hj
      rw [mem_filter]
      refine ⟨mem_univ _, ?_⟩
      rcases lt_or_eq_of_le hj with hlt | rfl
      · exact h _ _ hlt hi
      · exact hi
    have := card_le_card this
    rw [Fin.card_Iic] at this
    omega
  · intro hlt
    by_contra hi
    have : univ.filter P ⊆ Finset.Iio i := by
      intro j hj
      rw [mem_filter] at hj
      rw [Finset.mem_Iio]
      by_contra hji
      rcases lt_or_eq_of_le (not_lt.mp hji) with h1 | h1
      · exact hi (h _ _ h1 hj.2)
      · exact hi (h1 ▸ hj.2)
    have := card_le_card this
    rw [Fin.card_Iio] at this
    omega

/-- "Greater" on the extended reals, as the reference's sort asks it. -/
theorem cmpGt_eq (x y : EReal) : (FloatOps.cmpfTotal (F := Ideal) (φ := .f32) .gt x y == 1#1) = decide (y < x) := by
  show (Ideal.cmp .ogt x y == 1#1) = _
  unfold Ideal.cmp
  by_cases h : y < x <;> simp [h]

/-- Entry `i` of the row sorted greatest first exceeds `c` exactly if more than `i` values of the row do. -/
theorem sorted_lt {n : ℕ} (x : Fin n → EReal) (c : EReal) (i : Fin n) :
    c < x (sortedFrom (fun k k' => FloatOps.cmpfTotal (F := Ideal) (φ := .f32) .gt (x k) (x k') == 1#1) i) ↔
      i.val < ∑ k, I c (x k) := by
  set B : Fin n → Fin n → Bool := fun k k' => FloatOps.cmpfTotal (F := Ideal) (φ := .f32) .gt (x k) (x k') == 1#1 with hB
  have hBd : ∀ k k', B k k' = decide (x k' < x k) := fun k k' => cmpGt_eq _ _
  have anti : ∀ i j : Fin n, i < j → x (sortedFrom B j) ≤ x (sortedFrom B i) := by
    intro i j hij
    have := sortedFrom_noInversion B B
      (fun a b h => by rw [hBd] at h ⊢; simp only [decide_eq_true_eq, decide_eq_false_iff_not] at h ⊢; exact not_lt.mpr h.le)
      (fun a b h => h)
      (fun a b d h h' => by
        rw [hBd] at h h' ⊢; simp only [decide_eq_false_iff_not, not_lt] at h h' ⊢; exact h.trans h') i j hij
    rw [hBd] at this
    simpa using this
  classical
  have h := initial_iff (fun i => c < x (sortedFrom B i)) (fun i j hij hj => lt_of_lt_of_le hj (anti i j hij)) i
  rw [h]
  have e : ∑ k, I c (x k) = ∑ i, I c (x (sortedFrom B i)) :=
    (Equiv.sum_comp (Equiv.ofBijective (sortedFrom B) ⟨sortedFrom_injective B, sortedFrom_surjective B⟩)
      (fun k => I c (x k))).symm
  rw [e, card_filter]
  rfl

end Cert.TopK
-- ==== Proof.Reference.lean ====
/-
  What the reference computes: entry `i` of query `q` is above `x` exactly when more than `i` of the query's scores are,
  the scores being those the kernel ranks.
-/
module

public import proofs.«01_k».proof.Proof.Blocks
public import proofs.«01_k».proof.Proof.Count
public import proofs.«01_k».proof.Proof.Sorted
public import proofs.«01_k».proof.Proof.Gen.ReferenceIdeal.Read

@[expose] public section

noncomputable section

namespace Cert.TopK

open Idealize.ShloMosaic Idealize.ShloMosaic.TcCoe Idealize.ShloMosaic.ValueIdx Cert.ReferenceIdeal Cert.ReferenceIdeal.Gen Cert.ReferenceIdeal.Read Finset

/-- The reference's score of a row is the kernel's. -/
theorem reference_score (x : Vec Ideal S2x2048x768 .bf16) (codes : Vec Ideal S491520x768 .i8) (sc sq : Vec Ideal S491520 .f32)
    (q : Fin 4096) (n : Fin 491520) : val_main_v12 (F := Ideal) x codes sc sq (ix2 q n) = rowScore x codes sc sq q.val n.val := by
  rw [val_main_v12_apply, val_main_v9_apply, val_main_v8_apply, val_main_cst_apply, val_main_v7_apply, val_main_v4_apply,
    val_main_v6_apply, val_main_v5_apply, val_main_v11_apply, val_main_v10_apply, rowScore, dif_pos ⟨q.isLt, n.isLt⟩]
  have e1 : idx_main_v5 (idx_main_v6 (ix2 q n)) = ix1 n := funext fun a => by fin_cases a; rfl
  have e2 : idx_main_v10 (idx_main_v11 (ix2 q n)) = ix1 n := funext fun a => by fin_cases a; rfl
  rw [e1, e2]
  have e3 : ∀ k : Fin 768, val_main_v0 (F := Ideal) x (lidx_main_v4 (ix2 q n) k) * val_main_v3 (F := Ideal) codes (ridx_main_v4 (ix2 q n) k)
      = (((codes (ix2 n k)).toInt : ℝ) : EReal) * x (ix3 ⟨q.val / 2048, by omega⟩ ⟨q.val % 2048, by omega⟩ k) := by
    intro k
    have hk := k.isLt
    rw [mul_comm, val_main_v0_apply]
    refine congrArg₂ (fun a b : EReal => a * b) ?_ (congrArg x (funext fun a => Fin.ext ?_))
    · have e : ridx_main_v4 (ix2 q n) k = ix2 n k := funext fun a => by fin_cases a <;> rfl
      rw [e]
      show ((((codes (ix2 n k)).signExtend 32).toInt : ℝ) : EReal) = _
      rw [BitVec.toInt_signExtend_of_le (by decide)]
    · match a with
      | ⟨0, _⟩ => show (q.val * 768 + k.val) / 1572864 = q.val / 2048; omega
      | ⟨1, _⟩ => show (q.val * 768 + k.val) / 768 % 2048 = q.val % 2048; omega
      | ⟨2, _⟩ => show (q.val * 768 + k.val) % 768 = k.val; omega
  rw [Finset.sum_congr rfl fun k _ => e3 k]
  show two * (_ * sc (ix1 n)) - sq (ix1 n) = _ * (sc (ix1 n) * two) - sq (ix1 n)
  rw [mul_comm two, mul_assoc]

/-- An entry of the reference's ranking. -/
theorem topK_at (x : FVec Ideal S4096x491520 .f32) (q : Fin 4096) (i : Fin 10) (c : EReal) :
    c < (Host.topK S4096x10 1 (FloatOps.cmpfTotal (F := Ideal) (φ := .f32) .gt) x sliceFits_S4096x491520_S4096x10).1 (ix2 q i)
      ↔ i.val < ∑ n : Fin 491520, I c (x (ix2 q n)) := by
  rw [← sorted_lt (fun n : Fin 491520 => x (ix2 q n)) c ⟨i.val, by omega⟩]
  refine iff_of_eq (congrArg (c < ·) ?_)
  let j : S4096x491520.Idx := ix2 q ⟨i.val, by omega⟩
  have ea : ∀ k : Fin 491520, j.along (1 : Fin 2) k = ix2 q k := fun k => funext fun a => by
    fin_cases a <;> rfl
  unfold Host.topK Host.sort2
  dsimp only
  rw [dif_pos (show 1 < S4096x491520.rank by decide)]
  refine (extractStridedSlice_apply (fun _ => 0) _ _ (ix2 q i) j fun a => ?_).trans ?_
  · fin_cases a
    · exact (Nat.zero_add _).symm
    · exact (Nat.zero_add _).symm
  · show x (j.along (1 : Fin 2) (sortedFrom (fun k k' : Fin 491520 => FloatOps.cmpfTotal (F := Ideal) (φ := .f32) .gt
        (x (j.along (1 : Fin 2) k)) (x (j.along (1 : Fin 2) k')) == 1#1) (⟨i.val, by omega⟩ : Fin 491520))) = _
    simp only [ea]
    exact congrArg x (ea _)

/-- An entry of the reference's result, before the split into batches. -/
theorem reference_at (x : Vec Ideal S2x2048x768 .bf16) (codes : Vec Ideal S491520x768 .i8) (sc sq : Vec Ideal S491520 .f32)
    (q : Fin 4096) (i : Fin 10) (c : EReal) :
    c < val_main_values (F := Ideal) x codes sc sq (ix2 q i)
      ↔ i.val < ∑ n ∈ range 491520, I c (rowScore x codes sc sq q.val n) := by
  rw [val_main_values, topK_at, ← Fin.sum_univ_eq_sum_range (fun n => I c (rowScore x codes sc sq q.val n)) 491520]
  simp only [reference_score]

end Cert.TopK
-- ==== Proof.Equation.lean ====
/-
  The equation: the kernel's result is the reference's. Two entries are equal when the same values lie below them.
-/
module

public import proofs.«01_k».proof.Proof.Sweep
public import proofs.«01_k».proof.Proof.Reference
public import proofs.«01_k».proof.Defs

@[expose] public section

noncomputable section

namespace Cert.TopK

open Idealize.ShloMosaic Idealize.ShloMosaic.TcCoe Idealize.ShloMosaic.ValueIdx Cert.KernelIdeal Cert.KernelIdeal.Gen

/-- The kernel's result is the reference's function of the same arguments. -/
theorem result_eq (m : (ℓ : Loc nD τ sig) → Buf (Elt Ideal) ℓ) (c : Dev nD) :
    result m c = Cert.ReferenceIdeal.Read.val_main_v13 (F := Ideal) (m ((c : Thread nD τ).loc main_arg0))
      (m ((c : Thread nD τ).loc main_arg1)) (m ((c : Thread nD τ).loc main_arg2)) (m ((c : Thread nD τ).loc main_arg3)) := by
  unfold result Cert.ReferenceIdeal.Read.val_main_v13
  refine congrArg (fun v : Vec Ideal S4096x10 .f32 => shapeCast S2x2048x10 v shapeCasts_S4096x10_S2x2048x10) ?_
  funext y
  obtain ⟨q, i, rfl⟩ : ∃ (q : Fin 4096) (i : Fin 10), y = ix2 q i :=
    ⟨y 0, y 1, funext fun a => by fin_cases a <;> rfl⟩
  rw [transpose_apply [1, 0] _ _ (ix2 q i) (ix2 i q) (by intro x; fin_cases x <;> rfl)]
  refine (extractStridedSlice_apply ![0, 0] _ _ (ix2 i q) (ix2 (⟨i.val, by omega⟩ : Fin 16) q) fun a => ?_).trans ?_
  · fin_cases a
    · exact (Nat.zero_add _).symm
    · exact (Nat.zero_add _).symm
  · refine eq_of_forall_lt_iff (α := EReal) fun x => ?_
    have h := lastOut_at m c ⟨q.val / 128, by omega⟩ ⟨q.val % 128, by omega⟩ ⟨i.val, by omega⟩ i.isLt x
    have hq : 128 * (q.val / 128) + q.val % 128 = q.val := by omega
    simp only [hq] at h
    exact h.trans (reference_at _ _ _ _ q i x).symm

/-- The kernel and the reference agree, from memories that agree on the arguments. -/
theorem algebraic : Cert.algebraic_KernelIdeal_ReferenceIdeal := by
  intro m g m' g' _ hargs
  refine ⟨fun c => result m c, run_result m g, ?_⟩
  refine (θ_run Cert.ReferenceIdeal.defs _ _).mono (fun r h c => ?_) (Cert.ReferenceIdeal.Value.run m' g')
  obtain ⟨h0, h1, h2, h3⟩ := hargs c
  obtain ⟨e, k⟩ := h c
  refine ⟨(e.trans (Cert.ReferenceIdeal.Read.val_main_v13_eq _ _ _ _)).trans ?_, k⟩
  refine Eq.trans ?_ (result_eq m c).symm
  exact congr (congr (congrArg₂ (Cert.ReferenceIdeal.Read.val_main_v13 (F := Ideal)) h0 h1) h2) h3

end Cert.TopK
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Equation

@[expose] public section

noncomputable section

namespace Cert.Proof

open Idealize.ShloMosaic Idealize.SL.Sem

/-- The reference's frame: its run's arguments, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  Cert.TopK.algebraic⟩

end Cert.Proof

end
